-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S56x128
  ∧ IdealRules.bf16_pair.Statement Cert.KernelIdeal.S2x128 Cert.KernelIdeal.S1x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x7168 : Shape := ⟨3, ![3, 512, 7168]⟩
abbrev S7168x9216 : Shape := ⟨2, ![7168, 9216]⟩
abbrev S56x18432 : Shape := ⟨2, ![56, 18432]⟩
abbrev S7168x64 : Shape := ⟨2, ![7168, 64]⟩
abbrev S64x18432 : Shape := ⟨2, ![64, 18432]⟩
abbrev S18432 : Shape := ⟨1, ![18432]⟩
abbrev S1536x7168 : Shape := ⟨2, ![1536, 7168]⟩
abbrev S1x18432 : Shape := ⟨2, ![1, 18432]⟩
abbrev S1536x18432 : Shape := ⟨2, ![1536, 18432]⟩
abbrev S7168x128 : Shape := ⟨2, ![7168, 128]⟩
abbrev S56x256 : Shape := ⟨2, ![56, 256]⟩
abbrev S64x256 : Shape := ⟨2, ![64, 256]⟩
abbrev S1x256 : Shape := ⟨2, ![1, 256]⟩
abbrev S1536x256 : Shape := ⟨2, ![1536, 256]⟩
abbrev S7168x256 : Shape := ⟨2, ![7168, 256]⟩
abbrev S56x128 : Shape := ⟨2, ![56, 128]⟩
abbrev S56x128x1 : Shape := ⟨3, ![56, 128, 1]⟩
abbrev S64x128 : Shape := ⟨2, ![64, 128]⟩
abbrev S64x128x1 : Shape := ⟨3, ![64, 128, 1]⟩
abbrev S8x256 : Shape := ⟨2, ![8, 256]⟩
abbrev S512x64 : Shape := ⟨2, ![512, 64]⟩
abbrev S512x256 : Shape := ⟨2, ![512, 256]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S1x128 : Shape := ⟨2, ![1, 128]⟩
abbrev S2x128 : Shape := ⟨2, ![2, 128]⟩
abbrev S1x2x128 : Shape := ⟨3, ![1, 2, 128]⟩
abbrev S128x256 : Shape := ⟨2, ![128, 256]⟩
abbrev S16x8x256 : Shape := ⟨3, ![16, 8, 256]⟩
abbrev S256 : Shape := ⟨1, ![256]⟩
abbrev S8x128 : Shape := ⟨2, ![8, 128]⟩
abbrev S8x128x1 : Shape := ⟨3, ![8, 128, 1]⟩
abbrev S512x7168 : Shape := ⟨2, ![512, 7168]⟩
abbrev S512x128 : Shape := ⟨2, ![512, 128]⟩
abbrev S512x128x1 : Shape := ⟨3, ![512, 128, 1]⟩

abbrev nBuf : Space → Nat
  | .hbm => 10
  | .vmem => 15
  | .smem => 0
  | _ => 0

abbrev bufTy : (tb : Table) → Fin (tcTables nBuf tb) → BufTy
  | .hbm, ⟨0, _⟩ => ⟨S3x512x7168, .bf16⟩
  | .hbm, ⟨1, _⟩ => ⟨S7168x9216, .i8⟩
  | .hbm, ⟨2, _⟩ => ⟨S56x18432, .bf16⟩
  | .hbm, ⟨3, _⟩ => ⟨S7168x64, .bf16⟩
  | .hbm, ⟨4, _⟩ => ⟨S64x18432, .bf16⟩
  | .hbm, ⟨5, _⟩ => ⟨S18432, .f32⟩
  | .hbm, ⟨6, _⟩ => ⟨S1536x7168, .bf16⟩
  | .hbm, ⟨7, _⟩ => ⟨S1x18432, .f32⟩
  | .hbm, ⟨8, _⟩ => ⟨S1536x18432, .bf16⟩
  | .hbm, ⟨9, _⟩ => ⟨S1x18432, .f32⟩
  | .local _ .vmem, ⟨0, _⟩ => ⟨S1536x7168, .bf16⟩
  | .local _ .vmem, ⟨1, _⟩ => ⟨S7168x128, .i8⟩
  | .local _ .vmem, ⟨2, _⟩ => ⟨S7168x128, .i8⟩
  | .local _ .vmem, ⟨3, _⟩ => ⟨S56x256, .bf16⟩
  | .local _ .vmem, ⟨4, _⟩ => ⟨S56x256, .bf16⟩
  | .local _ .vmem, ⟨5, _⟩ => ⟨S7168x64, .bf16⟩
  | .local _ .vmem, ⟨6, _⟩ => ⟨S64x256, .bf16⟩
  | .local _ .vmem, ⟨7, _⟩ => ⟨S64x256, .bf16⟩
  | .local _ .vmem, ⟨8, _⟩ => ⟨S1x256, .f32⟩
  | .local _ .vmem, ⟨9, _⟩ => ⟨S1x256, .f32⟩
  | .local _ .vmem, ⟨10, _⟩ => ⟨S1536x256, .bf16⟩
  | .local _ .vmem, ⟨11, _⟩ => ⟨S1536x256, .bf16⟩
  | .local _ .vmem, ⟨12, _⟩ => ⟨S1x256, .f32⟩
  | .local _ .vmem, ⟨13, _⟩ => ⟨S1x256, .f32⟩
  | .local _ .vmem, ⟨14, _⟩ => ⟨S7168x256, .bf16⟩
  | _, _ => ⟨S3x512x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7168x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S3x512x7168 : Shape := ⟨3, ![3, 512, 7168]⟩
abbrev S7168x9216 : Shape := ⟨2, ![7168, 9216]⟩
abbrev S56x18432 : Shape := ⟨2, ![56, 18432]⟩
abbrev S7168x64 : Shape := ⟨2, ![7168, 64]⟩
abbrev S64x18432 : Shape := ⟨2, ![64, 18432]⟩
abbrev S18432 : Shape := ⟨1, ![18432]⟩
abbrev S_ : Shape := ⟨0, ![]⟩
abbrev S56x9216 : Shape := ⟨2, ![56, 9216]⟩
abbrev S64x9216 : Shape := ⟨2, ![64, 9216]⟩
abbrev S9216 : Shape := ⟨1, ![9216]⟩
abbrev S56x128x9216 : Shape := ⟨3, ![56, 128, 9216]⟩
abbrev S3x512x9216 : Shape := ⟨3, ![3, 512, 9216]⟩
abbrev S1x1x9216 : Shape := ⟨3, ![1, 1, 9216]⟩
abbrev S3x512x9216x1 : Shape := ⟨4, ![3, 512, 9216, 1]⟩
abbrev S3x512x9216x2 : Shape := ⟨4, ![3, 512, 9216, 2]⟩
abbrev S3x512x18432 : Shape := ⟨3, ![3, 512, 18432]⟩
abbrev S9216x1 : Shape := ⟨2, ![9216, 1]⟩
abbrev S9216x2 : Shape := ⟨2, ![9216, 2]⟩
abbrev S1536x18432 : Shape := ⟨2, ![1536, 18432]⟩
abbrev S1x18432 : Shape := ⟨2, ![1, 18432]⟩

abbrev nBuf : Space → Nat
  | .hbm => 87
  | .vmem => 0
  | .smem => 0
  | _ => 0

abbrev bufTy : (tb : Table) → Fin (tcTables nBuf tb) → BufTy
  | .hbm, ⟨0, _⟩ => ⟨S3x512x7168, .bf16⟩
  | .hbm, ⟨1, _⟩ => ⟨S7168x9216, .i8⟩
  | .hbm, ⟨2, _⟩ => ⟨S56x18432, .bf16⟩
  | .hbm, ⟨3, _⟩ => ⟨S7168x64, .bf16⟩
  | .hbm, ⟨4, _⟩ => ⟨S64x18432, .bf16⟩
  | .hbm, ⟨5, _⟩ => ⟨S18432, .f32⟩
  | .hbm, ⟨6, _⟩ => ⟨S7168x9216, .i32⟩
  | .hbm, ⟨7, _⟩ => ⟨S_, .i32⟩
  | .hbm, ⟨8, _⟩ => ⟨S7168x9216, .i32⟩
  | .hbm, ⟨9, _⟩ => ⟨S7168x9216, .i32⟩
  | .hbm, ⟨10, _⟩ => ⟨S_, .i32⟩
  | .hbm, ⟨11, _⟩ => ⟨S7168x9216, .i32⟩
  | .hbm, ⟨12, _⟩ => ⟨S7168x9216, .i32⟩
  | .hbm, ⟨13, _⟩ => ⟨S_, .i32⟩
  | .hbm, ⟨14, _⟩ => ⟨S7168x9216, .i32⟩
  | .hbm, ⟨15, _⟩ => ⟨S7168x9216, .i32⟩
  | .hbm, ⟨16, _⟩ => ⟨S56x9216, .bf16⟩
  | .hbm, ⟨17, _⟩ => ⟨S64x9216, .bf16⟩
  | .hbm, ⟨18, _⟩ => ⟨S9216, .f32⟩
  | .hbm, ⟨19, _⟩ => ⟨S_, .i32⟩
  | .hbm, ⟨20, _⟩ => ⟨S7168x9216, .i32⟩
  | .hbm, ⟨21, _⟩ => ⟨S7168x9216, .i1⟩
  | .hbm, ⟨22, _⟩ => ⟨S_, .i32⟩
  | .hbm, ⟨23, _⟩ => ⟨S7168x9216, .i32⟩
  | .hbm, ⟨24, _⟩ => ⟨S7168x9216, .i32⟩
  | .hbm, ⟨25, _⟩ => ⟨S7168x9216, .i32⟩
  | .hbm, ⟨26, _⟩ => ⟨S7168x9216, .bf16⟩
  | .hbm, ⟨27, _⟩ => ⟨S56x128x9216, .bf16⟩
  | .hbm, ⟨28, _⟩ => ⟨S7168x9216, .bf16⟩
  | .hbm, ⟨29, _⟩ => ⟨S7168x9216, .bf16⟩
  | .hbm, ⟨30, _⟩ => ⟨S7168x9216, .f32⟩
  | .hbm, ⟨31, _⟩ => ⟨S7168x9216, .f32⟩
  | .hbm, ⟨32, _⟩ => ⟨S_, .f32⟩
  | .hbm, ⟨33, _⟩ => ⟨S7168x9216, .f32⟩
  | .hbm, ⟨34, _⟩ => ⟨S7168x9216, .f32⟩
  | .hbm, ⟨35, _⟩ => ⟨S7168x9216, .f32⟩
  | .hbm, ⟨36, _⟩ => ⟨S7168x9216, .f32⟩
  | .hbm, ⟨37, _⟩ => ⟨S_, .f32⟩
  | .hbm, ⟨38, _⟩ => ⟨S9216, .f32⟩
  | .hbm, ⟨39, _⟩ => ⟨S9216, .f32⟩
  | .hbm, ⟨40, _⟩ => ⟨S7168x9216, .bf16⟩
  | .hbm, ⟨41, _⟩ => ⟨S3x512x9216, .f32⟩
  | .hbm, ⟨42, _⟩ => ⟨S9216, .f32⟩
  | .hbm, ⟨43, _⟩ => ⟨S1x1x9216, .f32⟩
  | .hbm, ⟨44, _⟩ => ⟨S3x512x9216, .f32⟩
  | .hbm, ⟨45, _⟩ => ⟨S3x512x9216, .f32⟩
  | .hbm, ⟨46, _⟩ => ⟨S56x9216, .bf16⟩
  | .hbm, ⟨47, _⟩ => ⟨S64x9216, .bf16⟩
  | .hbm, ⟨48, _⟩ => ⟨S9216, .f32⟩
  | .hbm, ⟨49, _⟩ => ⟨S_, .i32⟩
  | .hbm, ⟨50, _⟩ => ⟨S7168x9216, .i32⟩
  | .hbm, ⟨51, _⟩ => ⟨S7168x9216, .i1⟩
  | .hbm, ⟨52, _⟩ => ⟨S_, .i32⟩
  | .hbm, ⟨53, _⟩ => ⟨S7168x9216, .i32⟩
  | .hbm, ⟨54, _⟩ => ⟨S7168x9216, .i32⟩
  | .hbm, ⟨55, _⟩ => ⟨S7168x9216, .i32⟩
  | .hbm, ⟨56, _⟩ => ⟨S7168x9216, .bf16⟩
  | .hbm, ⟨57, _⟩ => ⟨S56x128x9216, .bf16⟩
  | .hbm, ⟨58, _⟩ => ⟨S7168x9216, .bf16⟩
  | .hbm, ⟨59, _⟩ => ⟨S7168x9216, .bf16⟩
  | .hbm, ⟨60, _⟩ => ⟨S7168x9216, .f32⟩
  | .hbm, ⟨61, _⟩ => ⟨S7168x9216, .f32⟩
  | .hbm, ⟨62, _⟩ => ⟨S_, .f32⟩
  | .hbm, ⟨63, _⟩ => ⟨S7168x9216, .f32⟩
  | .hbm, ⟨64, _⟩ => ⟨S7168x9216, .f32⟩
  | .hbm, ⟨65, _⟩ => ⟨S7168x9216, .f32⟩
  | .hbm, ⟨66, _⟩ => ⟨S7168x9216, .f32⟩
  | .hbm, ⟨67, _⟩ => ⟨S_, .f32⟩
  | .hbm, ⟨68, _⟩ => ⟨S9216, .f32⟩
  | .hbm, ⟨69, _⟩ => ⟨S9216, .f32⟩
  | .hbm, ⟨70, _⟩ => ⟨S7168x9216, .bf16⟩
  | .hbm, ⟨71, _⟩ => ⟨S3x512x9216, .f32⟩
  | .hbm, ⟨72, _⟩ => ⟨S9216, .f32⟩
  | .hbm, ⟨73, _⟩ => ⟨S1x1x9216, .f32⟩
  | .hbm, ⟨74, _⟩ => ⟨S3x512x9216, .f32⟩
  | .hbm, ⟨75, _⟩ => ⟨S3x512x9216, .f32⟩
  | .hbm, ⟨76, _⟩ => ⟨S3x512x9216x1, .f32⟩
  | .hbm, ⟨77, _⟩ => ⟨S3x512x9216x1, .f32⟩
  | .hbm, ⟨78, _⟩ => ⟨S3x512x9216x2, .f32⟩
  | .hbm, ⟨79, _⟩ => ⟨S3x512x18432, .f32⟩
  | .hbm, ⟨80, _⟩ => ⟨S3x512x18432, .bf16⟩
  | .hbm, ⟨81, _⟩ => ⟨S9216x1, .f32⟩
  | .hbm, ⟨82, _⟩ => ⟨S9216x1, .f32⟩
  | .hbm, ⟨83, _⟩ => ⟨S9216x2, .f32⟩
  | .hbm, ⟨84, _⟩ => ⟨S18432, .f32⟩
  | .hbm, ⟨85, _⟩ => ⟨S1536x18432, .bf16⟩
  | .hbm, ⟨86, _⟩ => ⟨S1x18432, .f32⟩
  | _, _ => ⟨S3x512x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Proof.Lanes.lean ====
/- The lane permutations of the kernel, written once for every row count: splitting a 256-lane row (two 128-lane
   halves) into its even and its odd lanes, and merging even and odd lanes back; and what each is at an index. -/
module

public import proofs.«01_k».proof.KernelIdeal
public import Idealize.ShloMosaic.Lib.Pointwise
public import Idealize.ShloMosaic.Lib.Pipeline.Value

@[expose] public section

set_option maxRecDepth 16384

noncomputable section

namespace Cert.KernelIdeal.Lanes

open Idealize.ShloMosaic

/-- `R` rows of 128 lanes. -/
abbrev Half (R : ℕ) : Shape := ⟨2, ![R, 128]⟩

/-- The same with a unit axis behind: the shape in which the index array of a gather is normalised. -/
abbrev Half1 (R : ℕ) : Shape := ⟨3, ![R, 128, 1]⟩

/-- A unit axis behind changes nothing of the element count. -/
theorem casts_to (R : ℕ) : (Half R).ShapeCasts (Half1 R) := by
  simp [Shape.ShapeCasts, Shape.numel, Fin.prod_univ_succ]

/-- Nor does dropping it. -/
theorem casts_back (R : ℕ) : (Half1 R).ShapeCasts (Half R) := by
  simp [Shape.ShapeCasts, Shape.numel, Fin.prod_univ_succ]

/-- The lane number can be counted along the second axis. -/
theorem iotas (R : ℕ) : (Half R).Iotas .tc 32 [1] := by
  refine ⟨by simp, fun _ => ⟨Or.inr rfl, le_refl _⟩, fun h => absurd rfl h⟩

variable {α : Type}

/-- A gather's index array with negative entries counted from the end. -/
def norm (R : ℕ) (e : IVec (Half R) 32) : IVec (Half R) 32 :=
  shapeCast (Half R) (shapeCast (Half1 R)
    (select (cmpi .slt e (broadcast (Half R) 0#32)) (addi e (broadcast (Half R) 128#32)) e) (casts_to R)) (casts_back R)

/-- The lanes of `x` that `e` names. -/
def take (R : ℕ) (x : (Half R).Idx → α) (e : IVec (Half R) 32) : (Half R).Idx → α := dynamicGather 1 x (norm R e)

/-- The lane number. -/
def lane (R : ℕ) : IVec (Half R) 32 := iota .tc (Half R) 32 [1] (iotas R)

/-- Twice the lane number, modulo 128. -/
def evenIdx (R : ℕ) : IVec (Half R) 32 :=
  andi (muli (broadcast (Half R) 2#32) (lane R)) (broadcast (Half R) 127#32)

/-- The lanes below 64. -/
def low (R : ℕ) : IVec (Half R) 1 := cmpi .slt (lane R) (broadcast (Half R) 64#32)

/-- The even lanes of the 256 lanes whose halves are `x0` and `x1`. -/
def evens (R : ℕ) (x0 x1 : (Half R).Idx → α) : (Half R).Idx → α :=
  select (low R) (take R x0 (evenIdx R)) (take R x1 (evenIdx R))

/-- The odd lanes. -/
def odds (R : ℕ) (x0 x1 : (Half R).Idx → α) : (Half R).Idx → α :=
  select (low R) (take R x0 (addi (evenIdx R) (broadcast (Half R) 1#32)))
    (take R x1 (addi (evenIdx R) (broadcast (Half R) 1#32)))

/-- The lanes of even number. -/
def isEven (R : ℕ) : IVec (Half R) 1 :=
  cmpi .eq (andi (lane R) (broadcast (Half R) 1#32)) (broadcast (Half R) 0#32)

/-- Half the lane number. -/
def halfIdx (R : ℕ) : IVec (Half R) 32 := shrsi (lane R) (broadcast (Half R) 1#32)

/-- The first 128 of the 256 lanes whose even lanes are `e` and odd lanes `o`. -/
def mergeLow (R : ℕ) (e o : (Half R).Idx → α) : (Half R).Idx → α :=
  select (isEven R) (take R e (halfIdx R)) (take R o (halfIdx R))

/-- The last 128 lanes. -/
def mergeHigh (R : ℕ) (e o : (Half R).Idx → α) : (Half R).Idx → α :=
  select (isEven R) (take R e (addi (halfIdx R) (broadcast (Half R) 64#32)))
    (take R o (addi (halfIdx R) (broadcast (Half R) 64#32)))

/-! ## Read at an index -/

open Idealize.ShloMosaic.Pointwise Idealize.ShloMosaic.Pipeline

/-- The lane that a gather reads: a negative entry counted from the end, modulo 128. -/
def norm1 (e : BitVec 32) : Fin 128 :=
  ⟨(Scalar.select (Scalar.cmpi .slt e 0#32) (e + 128#32) e).toNat % 128, Nat.mod_lt _ (by decide)⟩

/-- The lane number at an index. -/
theorem lane_apply (R : ℕ) (r : Fin R) (l : Fin 128) : lane R (ix2 r l) = BitVec.ofNat 32 l.val := by
  unfold lane
  rw [iota_apply]
  simp only [List.foldl_cons, List.foldl_nil, Nat.zero_mul, Nat.zero_add]
  rfl

/-- A gather along the lanes, at an index. -/
theorem take_apply (R : ℕ) (x : (Half R).Idx → α) (e : IVec (Half R) 32) (r : Fin R) (l : Fin 128) :
    take R x e (ix2 r l) = x (ix2 r (norm1 (e (ix2 r l)))) := by
  unfold take norm
  rw [shapeCast_shapeCast]
  show x _ = x _
  congr 1
  funext b
  match b with
  | ⟨0, _⟩ => rfl
  | ⟨1, _⟩ => rfl

/-- Twice the lane number modulo 128 is already a lane. -/
theorem norm1_even : ∀ l : Fin 128, (norm1 ((2#32 * BitVec.ofNat 32 l.val) &&& 127#32)).val = 2 * l.val % 128 := by
  decide +kernel

/-- The lane after it. -/
theorem norm1_odd : ∀ l : Fin 128, (norm1 (((2#32 * BitVec.ofNat 32 l.val) &&& 127#32) + 1#32)).val = 2 * l.val % 128 + 1 := by
  decide +kernel

/-- Half the lane number is already a lane. -/
theorem norm1_half : ∀ l : Fin 128, (norm1 ((BitVec.ofNat 32 l.val).sshiftRight' 1#32)).val = l.val / 2 := by
  decide +kernel

/-- The lane 64 after it. -/
theorem norm1_half64 : ∀ l : Fin 128, (norm1 ((BitVec.ofNat 32 l.val).sshiftRight' 1#32 + 64#32)).val = l.val / 2 + 64 := by
  decide +kernel

/-- The comparison of a lane with 64. -/
theorem low1 : ∀ l : Fin 128, Scalar.cmpi .slt (BitVec.ofNat 32 l.val) 64#32 = if l.val < 64 then 1#1 else 0#1 := by
  decide +kernel

/-- The test for an even lane. -/
theorem even1 : ∀ l : Fin 128, Scalar.cmpi .eq (BitVec.ofNat 32 l.val &&& 1#32) 0#32 = if l.val % 2 = 0 then 1#1 else 0#1 := by
  decide +kernel

/-- The lanes below 64, at an index. -/
theorem low_apply (R : ℕ) (r : Fin R) (l : Fin 128) : low R (ix2 r l) = if l.val < 64 then 1#1 else 0#1 := by
  rw [← low1 l, ← lane_apply R r l]
  rfl

/-- The even lanes, at an index. -/
theorem isEven_apply (R : ℕ) (r : Fin R) (l : Fin 128) : isEven R (ix2 r l) = if l.val % 2 = 0 then 1#1 else 0#1 := by
  rw [← even1 l, ← lane_apply R r l]
  rfl

/-- Twice the lane number, at an index. -/
theorem evenIdx_apply (R : ℕ) (r : Fin R) (l : Fin 128) : evenIdx R (ix2 r l) = (2#32 * BitVec.ofNat 32 l.val) &&& 127#32 := by
  rw [← lane_apply R r l]
  rfl

/-- Half the lane number, at an index. -/
theorem halfIdx_apply (R : ℕ) (r : Fin R) (l : Fin 128) : halfIdx R (ix2 r l) = (BitVec.ofNat 32 l.val).sshiftRight' 1#32 := by
  rw [← lane_apply R r l]
  rfl

/-- A selection by a decided bit. -/
theorem select_ite {P : Prop} [Decidable P] (c : BitVec 1) (h : c = if P then 1#1 else 0#1) (a b : α) :
    Scalar.select c a b = if P then a else b := by
  subst h
  by_cases hP : P <;> simp [hP, Scalar.select]

/-- Lane `l` of the even lanes is lane `2 l` of the 256 lanes `Z` whose halves are `x0` and `x1`. -/
theorem evens_of (R : ℕ) (x0 x1 : (Half R).Idx → α) (r : Fin R) (Z : Fin 256 → α)
    (h0 : ∀ k : Fin 128, x0 (ix2 r k) = Z ⟨k.val, by omega⟩) (h1 : ∀ k : Fin 128, x1 (ix2 r k) = Z ⟨128 + k.val, by omega⟩)
    (l : Fin 128) : evens R x0 x1 (ix2 r l) = Z ⟨2 * l.val, by omega⟩ := by
  show Scalar.select (low R (ix2 r l)) (take R x0 (evenIdx R) (ix2 r l)) (take R x1 (evenIdx R) (ix2 r l)) = _
  rw [select_ite _ (low_apply R r l), take_apply, take_apply, evenIdx_apply, h0, h1]
  have hn := norm1_even l
  split
  · congr 2; omega
  · congr 2; omega

/-- Lane `l` of the odd lanes is lane `2 l + 1`. -/
theorem odds_of (R : ℕ) (x0 x1 : (Half R).Idx → α) (r : Fin R) (Z : Fin 256 → α)
    (h0 : ∀ k : Fin 128, x0 (ix2 r k) = Z ⟨k.val, by omega⟩) (h1 : ∀ k : Fin 128, x1 (ix2 r k) = Z ⟨128 + k.val, by omega⟩)
    (l : Fin 128) : odds R x0 x1 (ix2 r l) = Z ⟨2 * l.val + 1, by omega⟩ := by
  show Scalar.select (low R (ix2 r l)) (take R x0 _ (ix2 r l)) (take R x1 _ (ix2 r l)) = _
  have he : addi (evenIdx R) (broadcast (Half R) 1#32) (ix2 r l) = ((2#32 * BitVec.ofNat 32 l.val) &&& 127#32) + 1#32 := by
    rw [← evenIdx_apply R r l]; rfl
  rw [select_ite _ (low_apply R r l), take_apply, take_apply, he, h0, h1]
  have hn := norm1_odd l
  split
  · congr 2; omega
  · congr 2; omega

/-- Where column `c` of 256 is kept when the even columns come first. -/
def slot (c : Fin 256) : Fin 256 := ⟨c.val / 2 + 128 * (c.val % 2), by omega⟩

/-- Column `l` of the merged lanes, `l < 128`: the lane of `Z` (even columns first, then the odd) where it is kept. -/
theorem mergeLow_of (R : ℕ) (e o : (Half R).Idx → α) (r : Fin R) (Z : Fin 256 → α)
    (h0 : ∀ k : Fin 128, e (ix2 r k) = Z ⟨k.val, by omega⟩) (h1 : ∀ k : Fin 128, o (ix2 r k) = Z ⟨128 + k.val, by omega⟩)
    (l : Fin 128) : mergeLow R e o (ix2 r l) = Z (slot ⟨l.val, by omega⟩) := by
  show Scalar.select (isEven R (ix2 r l)) (take R e _ (ix2 r l)) (take R o _ (ix2 r l)) = _
  rw [select_ite _ (isEven_apply R r l), take_apply, take_apply, halfIdx_apply, h0, h1]
  have hn := norm1_half l
  unfold slot
  split
  · congr 2; simp only; omega
  · congr 2; simp only; omega

/-- Column `128 + l` of the merged lanes. -/
theorem mergeHigh_of (R : ℕ) (e o : (Half R).Idx → α) (r : Fin R) (Z : Fin 256 → α)
    (h0 : ∀ k : Fin 128, e (ix2 r k) = Z ⟨k.val, by omega⟩) (h1 : ∀ k : Fin 128, o (ix2 r k) = Z ⟨128 + k.val, by omega⟩)
    (l : Fin 128) : mergeHigh R e o (ix2 r l) = Z (slot ⟨128 + l.val, by omega⟩) := by
  show Scalar.select (isEven R (ix2 r l)) (take R e _ (ix2 r l)) (take R o _ (ix2 r l)) = _
  have he : addi (halfIdx R) (broadcast (Half R) 64#32) (ix2 r l) = (BitVec.ofNat 32 l.val).sshiftRight' 1#32 + 64#32 := by
    rw [← halfIdx_apply R r l]; rfl
  rw [select_ite _ (isEven_apply R r l), take_apply, take_apply, he, h0, h1]
  have hn := norm1_half64 l
  unfold slot
  split
  · congr 2; simp only; omega
  · congr 2; simp only; omega

end Cert.KernelIdeal.Lanes
-- ==== Proof.Block.lean ====
/- What one grid point of the kernel computes, written once for all 56 groups of 128 rows: the decoded weight of a
   group, the running sums of squares, and the list of the stores into the scratch. -/
module

public import proofs.«01_k».proof.Proof.Gen.KernelIdeal.Value
public import proofs.«01_k».proof.Proof.Lanes

@[expose] public section

set_option maxRecDepth 16384

noncomputable section

namespace Cert.KernelIdeal.Block

open Idealize.ShloMosaic Idealize.ShloMosaic.TcCoe Idealize.ShloMosaic.Tactic
open Cert.KernelIdeal Cert.KernelIdeal.Gen

variable {F : FTy → Type} [FloatOps F]

/-! ## The operands shared by the groups -/

/-- The scales of the even columns, one row for each group. -/
def scaleEven (s : Vec F S56x256 .bf16) : FVec F S56x128 .bf16 :=
  truncf .bf16 (Lanes.evens 56 (extractStridedSlice S56x128 ![0, 0] (extf .f32 s bitsLt_bf16_f32) slices_S56x256_o0_0_S56x128)
    (extractStridedSlice S56x128 ![0, 128] (extf .f32 s bitsLt_bf16_f32) slices_S56x256_o0_128_S56x128)) bitsLt_bf16_f32

/-- The scales of the odd columns. -/
def scaleOdd (s : Vec F S56x256 .bf16) : FVec F S56x128 .bf16 :=
  truncf .bf16 (Lanes.odds 56 (extractStridedSlice S56x128 ![0, 0] (extf .f32 s bitsLt_bf16_f32) slices_S56x256_o0_0_S56x128)
    (extractStridedSlice S56x128 ![0, 128] (extf .f32 s bitsLt_bf16_f32) slices_S56x256_o0_128_S56x128)) bitsLt_bf16_f32

/-- The factor `b`, even columns first, doubled. -/
def b2 (b : Vec F S64x256 .bf16) : FVec F S64x256 .bf16 :=
  truncf .bf16 (mulf (concatenate S64x256 1
    [⟨S64x128, Lanes.evens 64 (extractStridedSlice S64x128 ![0, 0] (extf .f32 b bitsLt_bf16_f32) slices_S64x256_o0_0_S64x128)
      (extractStridedSlice S64x128 ![0, 128] (extf .f32 b bitsLt_bf16_f32) slices_S64x256_o0_128_S64x128)⟩,
     ⟨S64x128, Lanes.odds 64 (extractStridedSlice S64x128 ![0, 0] (extf .f32 b bitsLt_bf16_f32) slices_S64x256_o0_0_S64x128)
      (extractStridedSlice S64x128 ![0, 128] (extf .f32 b bitsLt_bf16_f32) slices_S64x256_o0_128_S64x128)⟩]
    concatenates_S64x128_S64x128_S64x256_d1) (broadcast S64x256 (Scalar.ofBits .f32 0x40000000#32))) bitsLt_bf16_f32

/-- The low-rank product for 512 rows of `a`. -/
def ab (a : Vec F S512x64 .bf16) (b : FVec F S64x256 .bf16) : FVec F S512x256 .f32 :=
  matmul dot_S512x64_S64x256_S512x256_1_0_0_1_n_n none a b (constant S512x256 .f32 0x00000000#32)

/-! ## One group -/

/-- The codes of 128 rows of bytes: row `2 k` the low nibbles of row `k`, row `2 k + 1` its high nibbles. -/
def codes (w : Vec F S128x128 .i8) : FVec F S256x128 .bf16 :=
  sitofp .bf16 (shapeCast S256x128 (concatenate S128x2x128 1
    [⟨S128x1x128, shapeCast S128x1x128 (shrsi (shli (extui 32 w natLt_8_32) (broadcast S128x128 28#32))
      (broadcast S128x128 28#32)) shapeCasts_S128x128_S128x1x128⟩,
     ⟨S128x1x128, shapeCast S128x1x128 (shrsi (shli (extui 32 w natLt_8_32) (broadcast S128x128 24#32))
      (broadcast S128x128 28#32)) shapeCasts_S128x128_S128x1x128⟩]
    concatenates_S128x1x128_S128x1x128_S128x2x128_d1) shapeCasts_S128x2x128_S256x128)

/-- One row of each of the two scale arrays is a block. -/
theorem slices_row (g : ℕ) (h : g < 56) : S56x128.Slices ![g, 0] S1x128 :=
  ⟨rfl, Fin.forall_fin_two.mpr ⟨by change g + 1 ≤ 56; omega, le_refl _⟩⟩

/-- The scales of group `g`, the even and the odd columns' in turn, for each of the group's 128 rows. -/
def scales (lo hi : FVec F S56x128 .bf16) (g : ℕ) (h : g < 56) : FVec F S256x128 .bf16 :=
  shapeCast S256x128 (broadcastTo S128x2x128 (shapeCast S1x2x128 (shapeCast S1x2x128
    (interleaveRows S2x128 (extractStridedSlice S1x128 ![g, 0] lo (slices_row g h))
      (extractStridedSlice S1x128 ![g, 0] hi (slices_row g h)) bitcasts_S2x128_w16_S1x128_w32)
    shapeCasts_S2x128_S1x2x128) shapeCasts_S1x2x128_S1x2x128) broadcasts_S1x2x128_S128x2x128) shapeCasts_S128x2x128_S256x128

/-- 128 of 512 rows are a block. -/
theorem slices_rows (o : ℕ) (h : o < 4) : S512x256.Slices ![128 * o, 0] S128x256 :=
  ⟨rfl, Fin.forall_fin_two.mpr ⟨by change 128 * o + 128 ≤ 512; omega, le_refl _⟩⟩

/-- The weight's rows of one group: the decoded codes times the scales, and the low-rank product's rows added. -/
def group (w : Vec F S128x128 .i8) (lo hi : FVec F S56x128 .bf16) (g : ℕ) (h : g < 56) (p : FVec F S512x256 .f32)
    (o : ℕ) (ho : o < 4) : FVec F S128x256 .f32 :=
  addf (concatenate S128x256 1
    [⟨S128x128, extf .f32 (rowsOfParity 0 S128x128 (mulf (codes w) (scales lo hi g h)) bitcasts_S256x128_w16_S128x128_w32) bitsLt_bf16_f32⟩,
     ⟨S128x128, extf .f32 (rowsOfParity 1 S128x128 (mulf (codes w) (scales lo hi g h)) bitcasts_S256x128_w16_S128x128_w32) bitsLt_bf16_f32⟩]
    concatenates_S128x128_S128x128_S128x256_d1) (extractStridedSlice S128x256 ![128 * o, 0] p (slices_rows o ho))

/-- The squares of 128 rows, every eighth row summed. -/
def squares (v : FVec F S128x256 .f32) : FVec F S8x256 .f32 :=
  multiReduction .add [0] S8x256 (shapeCast S16x8x256 (mulf v v) shapeCasts_S128x256_S16x8x256) 0x00000000#32
    reduces_S16x8x256_S8x256 (.inl rfl) rfl

/-! ## All groups, from the staged blocks -/

section All

variable (arg2 : Memref sig .tc .vmem S7168x128 .i8) (harg2 : arg2.IsWhole) (arg3 : Memref sig .tc .vmem S56x256 .bf16)
  (harg3 : arg3.IsWhole) (arg4 : Memref sig .tc .vmem S7168x64 .bf16) (harg4 : arg4.IsWhole)
  (arg5 : Memref sig .tc .vmem S64x256 .bf16) (harg5 : arg5.IsWhole)
  (x1 : Vec F S7168x128 .i8) (x2 : Vec F S56x256 .bf16) (x3 : Vec F S7168x64 .bf16) (x4 : Vec F S64x256 .bf16)

/-- The 128 rows of group `g` lie in the codes. -/
theorem inb_codes (g : ℕ) (h : g < 56) : ∀ a, (![128 * g, 0] : Fin 2 → Nat) a + S128x128.size a ≤ S7168x128.size a :=
  Fin.forall_fin_two.mpr ⟨by change 128 * g + 128 ≤ 7168; omega, le_refl _⟩

/-- The 512 rows of `a` that group `g` uses lie in `a`. -/
theorem inb_a (g : ℕ) (h : g < 56) : ∀ a, (![512 * (g / 4), 0] : Fin 2 → Nat) a + S512x64.size a ≤ S7168x64.size a :=
  Fin.forall_fin_two.mpr ⟨by change 512 * (g / 4) + 512 ≤ 7168; omega, le_refl _⟩

/-- The 128 rows of group `g` lie in the scratch. -/
theorem inb_v (g : ℕ) (h : g < 56) : ∀ a, (![128 * g, 0] : Fin 2 → Nat) a + S128x256.size a ≤ S7168x256.size a :=
  Fin.forall_fin_two.mpr ⟨by change 128 * g + 128 ≤ 7168; omega, le_refl _⟩

/-- The weight's rows of group `g`, from the staged blocks of codes, scales, `a` and `b`. -/
def groupAt (g : ℕ) (h : g < 56) : FVec F S128x256 .f32 :=
  group (View.readAt (Elt F) arg2.view (Rect.unit (s := S7168x128) ![128 * g, 0] S128x128.size (inb_codes g h)).toLoadRect (harg2.unread x1))
    (scaleEven (View.readAt (Elt F) arg3.view (Rect.unit (s := S56x256) ![0, 0] S56x256.size inb_S56x256_S56x256_0_0).toLoadRect (harg3.unread x2)))
    (scaleOdd (View.readAt (Elt F) arg3.view (Rect.unit (s := S56x256) ![0, 0] S56x256.size inb_S56x256_S56x256_0_0).toLoadRect (harg3.unread x2)))
    g h
    (ab (View.readAt (Elt F) arg4.view (Rect.unit (s := S7168x64) ![512 * (g / 4), 0] S512x64.size (inb_a g h)).toLoadRect (harg4.unread x3))
      (b2 (View.readAt (Elt F) arg5.view (Rect.unit (s := S64x256) ![0, 0] S64x256.size inb_S64x256_S64x256_0_0).toLoadRect (harg5.unread x4))))
    (g % 4) (Nat.mod_lt _ (by decide))

/-- The running sums of squares after `n` groups. -/
def sumsAfter : (n : ℕ) → n ≤ 56 → FVec F S8x256 .f32
  | 0, _ => broadcast S8x256 (Scalar.ofBits .f32 0x00000000#32)
  | n + 1, h => addf (sumsAfter n (Nat.le_of_succ_le h)) (squares (groupAt arg2 harg2 arg3 harg3 arg4 harg4 arg5 harg5 x1 x2 x3 x4 n h))

/-- The stores into the scratch of the first `n` groups, the last one first. -/
def storesTo : (n : ℕ) → n ≤ 56 → List (View.Piece (Elt F) S7168x256 .bf16)
  | 0, _ => []
  | n + 1, h => ⟨Rect.unit (s := S7168x256) ![128 * n, 0] S128x256.size (inb_v n h),
      shapeCast S128x256 (truncf .bf16 (groupAt arg2 harg2 arg3 harg3 arg4 harg4 arg5 harg5 x1 x2 x3 x4 n h) bitsLt_bf16_f32)
        shapeCasts_S128x256_S128x256⟩ :: storesTo n (Nat.le_of_succ_le h)

/-- The whole scratch as the matrix product reads it. -/
def scratchRead (arg9 : Memref sig .tc .vmem S7168x256 .bf16) : Vec F S7168x256 .bf16 :=
  arg9.view.readCov (storesTo arg2 harg2 arg3 harg3 arg4 harg4 arg5 harg5 x1 x2 x3 x4 56 (le_refl _))
    (Rect.unit (s := S7168x256) ![0, 0] S7168x256.size inb_S7168x256_S7168x256_0_0).toLoadRect

end All

/-! ## The two results -/

/-- The column norms, even columns first. -/
def norms (ss : FVec F S8x256 .f32) : FVec F S1x256 .f32 :=
  sqrt (shapeCast S1x256 (multiReduction .add [0] S256 ss 0x00000000#32 reduces_S8x256_S256 (.inl rfl) rfl) shapeCasts_S256_S1x256)

/-- Eight rows, each the first 128 of the columns' norms. -/
def normsEven (n : FVec F S1x256 .f32) : FVec F S8x128 .f32 :=
  broadcastTo S8x128 (shapeCast S1x128 (extractStridedSlice S1x128 ![0, 0] n slices_S1x256_o0_0_S1x128) shapeCasts_S1x128_S1x128)
    broadcasts_S1x128_S8x128

/-- Eight rows, each the last 128 of the columns' norms. -/
def normsOdd (n : FVec F S1x256 .f32) : FVec F S8x128 .f32 :=
  broadcastTo S8x128 (shapeCast S1x128 (extractStridedSlice S1x128 ![0, 128] n slices_S1x256_o0_128_S1x128) shapeCasts_S1x128_S1x128)
    broadcasts_S1x128_S8x128

/-- The norms in column order: the second result's block. -/
def normRow (n : FVec F S1x256 .f32) : FVec F S1x256 .f32 :=
  extractStridedSlice S1x256 ![0, 0] (concatenate S8x256 1
    [⟨S8x128, Lanes.mergeLow 8 (normsEven n) (normsOdd n)⟩, ⟨S8x128, Lanes.mergeHigh 8 (normsEven n) (normsOdd n)⟩]
    concatenates_S8x128_S8x128_S8x256_d1) slices_S8x256_o0_0_S1x256

/-- Eight rows, each the magnitudes. -/
def magnitudes (g : Vec F S1x256 .f32) : FVec F S8x256 .f32 :=
  broadcastTo S8x256 (shapeCast S1x256 (shapeCast S1x256 g shapeCasts_S1x256_S1x256) shapeCasts_S1x256_S1x256)
    broadcasts_S1x256_S8x256

/-- The gain of each column, even columns first: the magnitude over the norm. -/
def gain (g : Vec F S1x256 .f32) (n : FVec F S1x256 .f32) : FVec F S1x256 .f32 :=
  divf (extractStridedSlice S1x256 ![0, 0] (concatenate S8x256 1
    [⟨S8x128, Lanes.evens 8 (extractStridedSlice S8x128 ![0, 0] (magnitudes g) slices_S8x256_o0_0_S8x128)
      (extractStridedSlice S8x128 ![0, 128] (magnitudes g) slices_S8x256_o0_128_S8x128)⟩,
     ⟨S8x128, Lanes.odds 8 (extractStridedSlice S8x128 ![0, 0] (magnitudes g) slices_S8x256_o0_0_S8x128)
      (extractStridedSlice S8x128 ![0, 128] (magnitudes g) slices_S8x256_o0_128_S8x128)⟩]
    concatenates_S8x128_S8x128_S8x256_d1) slices_S8x256_o0_0_S1x256) n

/-- The product of 512 rows of `x` and the weight, each column times its gain, even columns first. -/
def product (x : Vec F S512x7168 .bf16) (v : Vec F S7168x256 .bf16) (q : FVec F S1x256 .f32) : FVec F S512x256 .f32 :=
  mulf (matmul dot_S512x7168_S7168x256_S512x256_1_0_0_1_n_n none (shapeCast S512x7168 x shapeCasts_S512x7168_S512x7168) v
    (constant S512x256 .f32 0x00000000#32)) (broadcastTo S512x256 q broadcasts_S1x256_S512x256)

/-- The first 128 columns of the product, in column order. -/
def tileLow (p : FVec F S512x256 .f32) : FVec F S512x128 .bf16 :=
  truncf .bf16 (Lanes.mergeLow 512 (extractStridedSlice S512x128 ![0, 0] p slices_S512x256_o0_0_S512x128)
    (extractStridedSlice S512x128 ![0, 128] p slices_S512x256_o0_128_S512x128)) bitsLt_bf16_f32

/-- The last 128 columns of the product, in column order. -/
def tileHigh (p : FVec F S512x256 .f32) : FVec F S512x128 .bf16 :=
  truncf .bf16 (Lanes.mergeHigh 512 (extractStridedSlice S512x128 ![0, 0] p slices_S512x256_o0_0_S512x128)
    (extractStridedSlice S512x128 ![0, 128] p slices_S512x256_o0_128_S512x128)) bitsLt_bf16_f32

section Rows

variable (arg1 : Memref sig .tc .vmem S1536x7168 .bf16) (harg1 : arg1.IsWhole) (x0 : Vec F S1536x7168 .bf16)
  (v : Vec F S7168x256 .bf16) (q : FVec F S1x256 .f32)

/-- The 512 rows of tile `t` lie in `x`. -/
theorem inb_x (t : ℕ) (h : t < 3) : ∀ a, (![512 * t, 0] : Fin 2 → Nat) a + S512x7168.size a ≤ S1536x7168.size a :=
  Fin.forall_fin_two.mpr ⟨by change 512 * t + 512 ≤ 1536; omega, le_refl _⟩

/-- The rows of tile `t` and 128 columns from `o` lie in the first result's block. -/
theorem inb_y (t : ℕ) (h : t < 3) (o : ℕ) (ho : o ≤ 128) :
    ∀ a, (![512 * t, o] : Fin 2 → Nat) a + S512x128.size a ≤ S1536x256.size a :=
  Fin.forall_fin_two.mpr ⟨by change 512 * t + 512 ≤ 1536; omega, by change o + 128 ≤ 256; omega⟩

/-- The product for row tile `t`. -/
def productAt (t : ℕ) (h : t < 3) : FVec F S512x256 .f32 :=
  product (View.readAt (Elt F) arg1.view (Rect.unit (s := S1536x7168) ![512 * t, 0] S512x7168.size (inb_x t h)).toLoadRect (harg1.unread x0)) v q

/-- The stores into the first result of the first `n` row tiles, the last one first. -/
def rowStoresTo : (n : ℕ) → n ≤ 3 → List (View.Piece (Elt F) S1536x256 .bf16)
  | 0, _ => []
  | n + 1, h => ⟨Rect.unit (s := S1536x256) ![512 * n, 128] S512x128.size (inb_y n h 128 (le_refl _)), tileHigh (productAt arg1 harg1 x0 v q n h)⟩
      :: ⟨Rect.unit (s := S1536x256) ![512 * n, 0] S512x128.size (inb_y n h 0 (Nat.zero_le _)), tileLow (productAt arg1 harg1 x0 v q n h)⟩
      :: rowStoresTo n (Nat.le_of_succ_le h)

end Rows

end Cert.KernelIdeal.Block
-- ==== Proof.Values.lean ====
/- The groups, norms, gains and products of `Block` at an index, over the extended reals. -/
module

public import proofs.«01_k».proof.Proof.Block
public import Idealize.ShloMosaic.Lib.WholeRead

@[expose] public section

set_option maxRecDepth 16384

noncomputable section

namespace Cert.KernelIdeal.Block

open Idealize.ShloMosaic Idealize.ShloMosaic.Pointwise Idealize.ShloMosaic.Pipeline
open Cert.KernelIdeal Cert.KernelIdeal.Gen

/-- The index of a block's element in the array. -/
theorem unit_idx {A B a b p q : ℕ}
    (inb : ∀ i, (![p, q] : Fin 2 → ℕ) i + (⟨2, ![a, b]⟩ : Shape).size i ≤ (⟨2, ![A, B]⟩ : Shape).size i)
    (r : Fin a) (l : Fin b) (hr : p + r.val < A) (hl : q + l.val < B) :
    (Rect.unit (s := ⟨2, ![A, B]⟩) ![p, q] (⟨2, ![a, b]⟩ : Shape).size inb).toLoadRect.idx (ix2 r l) = ix2 ⟨p + r.val, hr⟩ ⟨q + l.val, hl⟩ := by
  funext i
  match i with
  | ⟨0, _⟩ => exact Fin.ext (by show p + 1 * r.val = _; simp)
  | ⟨1, _⟩ => exact Fin.ext (by show q + 1 * l.val = _; simp)

/-- The column kept in lane `l`, the even columns first. -/
def col (l : Fin 256) : Fin 256 := ⟨2 * (l.val % 128) + l.val / 128, by omega⟩

/-- The lane of a column keeps that column. -/
theorem col_slot (c : Fin 256) : col (Lanes.slot c) = c := Fin.ext (by simp only [col, Lanes.slot]; omega)

/-- The code in the low (`p = 0`) or the high nibble of a byte, as a signed word. -/
def codeBits (p : ℕ) (w : BitVec 8) : BitVec 32 :=
  if p = 0 then IntOp.shrsi ArithUnit.vector (IntOp.shli ArithUnit.vector (BitVec.setWidth 32 w) 28#32) 28#32
  else IntOp.shrsi ArithUnit.vector (IntOp.shli ArithUnit.vector (BitVec.setWidth 32 w) 24#32) 28#32

/-- The code as a number. -/
def code (p : ℕ) (w : BitVec 8) : EReal := FloatOps.sitofp (F := Ideal) FTy.bf16 (codeBits p w)

/-- One weight: the code times its scale, and the inner product with the doubled factor. -/
def weight (w : BitVec 8) (p : ℕ) (s : EReal) (a b : Fin 64 → EReal) : EReal :=
  code p w * s + ∑ r, a r * (b r * 2)

/-- The f32 pattern `0x40000000` is two. -/
theorem two_eq : Ideal.ofBits FTy.f32 1073741824#32 = 2 := by
  rw [show (2 : EReal) = ((2 : ℝ) : EReal) by norm_cast]
  simp [Ideal.ofBits, Ideal.ieee, -EReal.coe_mul]; norm_num

/-- The even columns' scales, at an index. -/
theorem scaleEven_apply (s : Vec Ideal S56x256 .bf16) (g : Fin 56) (l : Fin 128) :
    scaleEven s (ix2 g l) = s (ix2 g ⟨2 * l.val, by omega⟩) := by
  unfold scaleEven
  show Lanes.evens 56 _ _ (ix2 g l) = _
  refine Lanes.evens_of 56 _ _ g (fun c => s (ix2 g c)) (fun k => ?_) (fun k => ?_) l <;> pointwise

/-- The odd columns' scales, at an index. -/
theorem scaleOdd_apply (s : Vec Ideal S56x256 .bf16) (g : Fin 56) (l : Fin 128) :
    scaleOdd s (ix2 g l) = s (ix2 g ⟨2 * l.val + 1, by omega⟩) := by
  unfold scaleOdd
  show Lanes.odds 56 _ _ (ix2 g l) = _
  refine Lanes.odds_of 56 _ _ g (fun c => s (ix2 g c)) (fun k => ?_) (fun k => ?_) l <;> pointwise

/-- The doubled factor, at an index. -/
theorem b2_apply (b : Vec Ideal S64x256 .bf16) (s : Fin 64) (l : Fin 256) : b2 b (ix2 s l) = b (ix2 s (col l)) * 2 := by
  unfold b2
  pointwise
  rw [two_eq]
  congr 1
  split
  · rename_i h
    rw [Lanes.evens_of 64 _ _ s (fun c => b (ix2 s c)) (fun k => by pointwise) (fun k => by pointwise) ⟨l.val, h⟩]
    congr 2
    exact Fin.ext (by simp only [col]; omega)
  · rename_i h
    rw [Lanes.odds_of 64 _ _ s (fun c => b (ix2 s c)) (fun k => by pointwise) (fun k => by pointwise) ⟨l.val - 128, by omega⟩]
    congr 2
    exact Fin.ext (by simp only [col]; omega)

/-- The low-rank product, at an index. -/
theorem ab_apply (a : Vec Ideal S512x64 .bf16) (b : FVec Ideal S64x256 .bf16) (s : Fin 512) (l : Fin 256) :
    ab a b (ix2 s l) = ∑ r, a (ix2 s r) * b (ix2 r l) := by
  unfold ab
  pointwise

/-- The sums of every eighth row's squares, at an index. -/
theorem squares_apply (v : FVec Ideal S128x256 .f32) (s : Fin 8) (l : Fin 256) :
    squares v (ix2 s l) = ∑ j : Fin 16, v (ix2 ⟨j.val * 8 + s.val, by omega⟩ l) * v (ix2 ⟨j.val * 8 + s.val, by omega⟩ l) := by
  unfold squares
  pointwise

/-- One group's weights, at an index: the code times its scale, and the low-rank product added. -/
theorem group_apply (w : Vec Ideal S128x128 .i8) (s : Vec Ideal S56x256 .bf16) (g : ℕ) (h : g < 56)
    (p : FVec Ideal S512x256 .f32) (o : ℕ) (ho : o < 4) (r : Fin 128) (l : Fin 256) :
    group w (scaleEven s) (scaleOdd s) g h p o ho (ix2 r l)
      = code (l.val / 128) (w (ix2 r ⟨l.val % 128, Nat.mod_lt _ (by decide)⟩)) * s (ix2 ⟨g, h⟩ (col l)) + p (ix2 ⟨128 * o + r.val, by omega⟩ l) := by
  have e0 : 2 * r.val % 2 = 0 := by omega
  have e1 : (2 * r.val + 1) % 2 = 1 := by omega
  unfold group codes scales
  pointwise
  simp only [e0, e1, Nat.reduceLT, Nat.reduceMod, Nat.reduceDiv, if_true, dif_pos, Nat.zero_lt_one, Nat.add_zero,
    lt_irrefl, dif_neg, not_false_eq_true, Nat.one_ne_zero, if_false, Nat.zero_mod, Nat.zero_div]
  congr 1
  split
  · rename_i hl
    refine congrArg₂ (· * ·) ?_ ((scaleEven_apply s ⟨g, h⟩ ⟨l.val, hl⟩).trans ?_)
    · have hp : l.val / 128 = 0 := by omega
      have hm : (⟨l.val % 128, Nat.mod_lt _ (by decide)⟩ : Fin 128) = ⟨l.val, hl⟩ := Fin.ext (Nat.mod_eq_of_lt hl)
      rw [hp, hm]
      rfl
    · congr 2
      exact Fin.ext (by simp only [col]; omega)
  · rename_i hl
    refine congrArg₂ (· * ·) ?_ ((scaleOdd_apply s ⟨g, h⟩ ⟨l.val - 128, by omega⟩).trans ?_)
    · have hp : l.val / 128 = 1 := by omega
      have hm : (⟨l.val % 128, Nat.mod_lt _ (by decide)⟩ : Fin 128) = ⟨l.val - 128, by omega⟩ := Fin.ext (by simp only []; omega)
      rw [hp, hm]
      rfl
    · congr 2
      exact Fin.ext (by simp only [col]; omega)

/-- The columns' norms. -/
theorem norms_apply (ss : FVec Ideal S8x256 .f32) (s : Fin 1) (l : Fin 256) :
    norms ss (ix2 s l) = Ideal.sqrt (∑ k : Fin 8, ss (ix2 k l)) := by
  unfold norms
  pointwise

/-- The norms in column order. -/
theorem normRow_apply (n : FVec Ideal S1x256 .f32) (s : Fin 1) (l : Fin 256) :
    normRow n (ix2 s l) = n (ix2 0 (Lanes.slot l)) := by
  unfold normRow
  pointwise
  split
  · rename_i h
    exact Lanes.mergeLow_of 8 _ _ _ (fun c => n (ix2 0 c)) (fun k => by unfold normsEven; pointwise) (fun k => by unfold normsOdd; pointwise) ⟨l.val, h⟩
  · rename_i h
    rw [Lanes.mergeHigh_of 8 _ _ _ (fun c => n (ix2 0 c)) (fun k => by unfold normsEven; pointwise) (fun k => by unfold normsOdd; pointwise)
      ⟨l.val - 128, by omega⟩]
    congr 3
    exact Fin.ext (by simp only []; omega)

/-- The gains, at an index. -/
theorem gain_apply (g : Vec Ideal S1x256 .f32) (n : FVec Ideal S1x256 .f32) (s : Fin 1) (l : Fin 256) :
    gain g n (ix2 s l) = Ideal.div (g (ix2 0 (col l))) (n (ix2 s l)) := by
  unfold gain
  pointwise
  congr 1
  split
  · rename_i h
    rw [Lanes.evens_of 8 _ _ _ (fun c => g (ix2 0 c)) (fun k => by unfold magnitudes; pointwise) (fun k => by unfold magnitudes; pointwise) ⟨l.val, h⟩]
    congr 2
    exact Fin.ext (by simp only [col]; omega)
  · rename_i h
    rw [Lanes.odds_of 8 _ _ _ (fun c => g (ix2 0 c)) (fun k => by unfold magnitudes; pointwise) (fun k => by unfold magnitudes; pointwise)
      ⟨l.val - 128, by omega⟩]
    congr 2
    exact Fin.ext (by simp only [col]; omega)

/-- The products, at an index. -/
theorem product_apply (x : Vec Ideal S512x7168 .bf16) (v : Vec Ideal S7168x256 .bf16) (q : FVec Ideal S1x256 .f32) (s : Fin 512) (l : Fin 256) :
    product x v q (ix2 s l) = (∑ k : Fin 7168, x (ix2 s k) * v (ix2 k l)) * q (ix2 0 l) := by
  unfold product
  pointwise

/-- The first 128 columns of the product in column order. -/
theorem tileLow_apply (p : FVec Ideal S512x256 .f32) (s : Fin 512) (l : Fin 128) :
    tileLow p (ix2 s l) = p (ix2 s (Lanes.slot ⟨l.val, by omega⟩)) := by
  unfold tileLow
  show Lanes.mergeLow 512 _ _ (ix2 s l) = _
  exact Lanes.mergeLow_of 512 _ _ s (fun c => p (ix2 s c)) (fun k => by pointwise) (fun k => by pointwise) l

/-- The last 128 columns of the product in column order. -/
theorem tileHigh_apply (p : FVec Ideal S512x256 .f32) (s : Fin 512) (l : Fin 128) :
    tileHigh p (ix2 s l) = p (ix2 s (Lanes.slot ⟨128 + l.val, by omega⟩)) := by
  unfold tileHigh
  show Lanes.mergeHigh 512 _ _ (ix2 s l) = _
  exact Lanes.mergeHigh_of 512 _ _ s (fun c => p (ix2 s c)) (fun k => by pointwise) (fun k => by pointwise) l

end Cert.KernelIdeal.Block
-- ==== Proof.Reference.lean ====
/- What the reference computes: the weight, the norms and the products of the even or of the odd columns, at an index. -/
module

public import proofs.«01_k».proof.Proof.Gen.ReferenceIdeal.Run
public import proofs.«01_k».proof.Proof.Values

@[expose] public section

set_option maxRecDepth 16384

noncomputable section

namespace Cert.ReferenceIdeal.Fields

open Idealize.ShloMosaic Idealize.ShloMosaic.Pointwise Idealize.ShloMosaic.TcCoe
open Cert.ReferenceIdeal Cert.ReferenceIdeal.Gen Cert.ReferenceIdeal.Value

section Generic

variable {F : FTy → Type} [FloatOps F]

/-- The low nibbles of the bytes. -/
def lowBits (w : Vec F S7168x9216 .i8) : IVec S7168x9216 32 :=
  andi (extui 32 w natLt_8_32) (broadcastInDim S7168x9216 ![] bcast_S_S7168x9216 (constantI S_ 32 15#32))

/-- The high nibbles of the bytes. -/
def highBits (w : Vec F S7168x9216 .i8) : IVec S7168x9216 32 :=
  andi (Host.shrsi (extui 32 w natLt_8_32) (broadcastInDim S7168x9216 ![] bcast_S_S7168x9216 (constantI S_ 32 4#32)))
    (broadcastInDim S7168x9216 ![] bcast_S_S7168x9216 (constantI S_ 32 15#32))

/-- The weight of half of the columns, from their nibbles, scales and factor `b`. -/
def half (q : IVec S7168x9216 32) (s : FVec F S56x9216 .bf16) (a : Vec F S7168x64 .bf16) (b : FVec F S64x9216 .bf16) :
    FVec F S7168x9216 .f32 :=
  addf (extf .f32 (mulf (sitofp .bf16 (select
      (cmpi .sge q (broadcastInDim S7168x9216 ![] bcast_S_S7168x9216 (constantI S_ 32 8#32)))
      (subi q (broadcastInDim S7168x9216 ![] bcast_S_S7168x9216 (constantI S_ 32 16#32))) q))
    (shapeCast _ (broadcastInDim S56x128x9216 ![0, 2] bcast_S56x9216_S56x128x9216_0_2 s) shapeCasts_S56x128x9216_S7168x9216)) bitsLt_bf16_f32)
    (mulf (broadcastInDim S7168x9216 ![] bcast_S_S7168x9216 (constant S_ .f32 0x40000000#32))
      (Host.dotGeneral dot_S7168x64_S64x9216_S7168x9216_1_0_0_1_n_n none a b))

/-- The norms of the weight's columns. -/
def halfNorm (v : FVec F S7168x9216 .f32) : FVec F S9216 .f32 :=
  Host.sqrt (Host.reduceAdd (mulf v v) (constant S_ .f32 0x00000000#32) reducesTo_S7168x9216_S9216_d0 h_S_)

/-- The products of `x` and the weight, each column times its magnitude over its norm. -/
def halfOut (x : Vec F S3x512x7168 .bf16) (v : FVec F S7168x9216 .f32) (g : FVec F S9216 .f32) : FVec F S3x512x9216 .f32 :=
  mulf (Host.dotGeneral dot_S3x512x7168_S7168x9216_S3x512x9216_2_0_01_1_n_n none x (truncf .bf16 v bitsLt_bf16_f32))
    (broadcastInDim S3x512x9216 ![0, 1, 2] bcast_S1x1x9216_S3x512x9216_0_1_2
      (broadcastInDim S1x1x9216 ![2] bcast_S9216_S1x1x9216_2 (Host.divf g (halfNorm v))))

/-- The even columns and the odd columns of the first result, interleaved. -/
def joinOut (e o : FVec F S3x512x9216 .f32) : FVec F S1536x18432 .bf16 :=
  shapeCast _ (truncf .bf16 (shapeCast _ (concatenate S3x512x9216x2 3
    [⟨S3x512x9216x1, broadcastInDim S3x512x9216x1 ![0, 1, 2] bcast_S3x512x9216_S3x512x9216x1_0_1_2 e⟩,
     ⟨S3x512x9216x1, broadcastInDim S3x512x9216x1 ![0, 1, 2] bcast_S3x512x9216_S3x512x9216x1_0_1_2 o⟩]
    concatenates_S3x512x9216x1_S3x512x9216x1_S3x512x9216x2_d3) shapeCasts_S3x512x9216x2_S3x512x18432) bitsLt_bf16_f32)
    shapeCasts_S3x512x18432_S1536x18432

/-- The even and the odd columns' norms, interleaved. -/
def joinNorm (e o : FVec F S9216 .f32) : FVec F S1x18432 .f32 :=
  shapeCast _ (shapeCast _ (concatenate S9216x2 1
    [⟨S9216x1, broadcastInDim S9216x1 ![0] bcast_S9216_S9216x1_0 e⟩, ⟨S9216x1, broadcastInDim S9216x1 ![0] bcast_S9216_S9216x1_0 o⟩]
    concatenates_S9216x1_S9216x1_S9216x2_d1) shapeCasts_S9216x2_S18432) shapeCasts_S18432_S1x18432

variable (m : (ℓ : Loc nD τ sig) → Buf (Elt F) ℓ) (c : Dev nD)

/-- The weight's even columns. -/
def evenWeight : FVec F S7168x9216 .f32 :=
  half (lowBits (m ((c.tc : Thread nD τ).loc main_arg1)))
    (Host.slice S56x9216 ![0, 0] ![1, 2] (m ((c.tc : Thread nD τ).loc main_arg2)) slicesBy_S56x18432_S56x9216_0s1_0s2)
    (m ((c.tc : Thread nD τ).loc main_arg3))
    (Host.slice S64x9216 ![0, 0] ![1, 2] (m ((c.tc : Thread nD τ).loc main_arg4)) slicesBy_S64x18432_S64x9216_0s1_0s2)

/-- The weight's odd columns. -/
def oddWeight : FVec F S7168x9216 .f32 :=
  half (highBits (m ((c.tc : Thread nD τ).loc main_arg1)))
    (Host.slice S56x9216 ![0, 1] ![1, 2] (m ((c.tc : Thread nD τ).loc main_arg2)) slicesBy_S56x18432_S56x9216_0s1_1s2)
    (m ((c.tc : Thread nD τ).loc main_arg3))
    (Host.slice S64x9216 ![0, 1] ![1, 2] (m ((c.tc : Thread nD τ).loc main_arg4)) slicesBy_S64x18432_S64x9216_0s1_1s2)

/-- The reference's first result. -/
theorem first_eq : res_main_v68 m c = joinOut
    (halfOut (m ((c.tc : Thread nD τ).loc main_arg0)) (evenWeight m c)
      (Host.slice S9216 ![0] ![2] (m ((c.tc : Thread nD τ).loc main_arg5)) slicesBy_S18432_S9216_0s2))
    (halfOut (m ((c.tc : Thread nD τ).loc main_arg0)) (oddWeight m c)
      (Host.slice S9216 ![1] ![2] (m ((c.tc : Thread nD τ).loc main_arg5)) slicesBy_S18432_S9216_1s2)) := by
  unfold res_main_v68
  rfl

/-- The reference's second result. -/
theorem second_eq : res_main_v69 m c = joinNorm (halfNorm (evenWeight m c)) (halfNorm (oddWeight m c)) := by
  unfold res_main_v69
  rfl

end Generic

end Cert.ReferenceIdeal.Fields
-- ==== Proof.Nibbles.lean ====
/- A nibble, decoded by the reference and by the kernel. -/
module

public import proofs.«01_k».proof.Proof.Reference
public import proofs.«01_k».proof.Proof.Values

@[expose] public section

set_option maxRecDepth 16384

noncomputable section

namespace Cert.ReferenceIdeal.Fields

open Idealize.ShloMosaic Idealize.ShloMosaic.Pointwise Idealize.ShloMosaic.TcCoe
open Cert.ReferenceIdeal Cert.ReferenceIdeal.Gen Cert.ReferenceIdeal.Value

/-- A nibble as the reference decodes it. -/
def decoded (q : BitVec 32) : BitVec 32 := if IntOp.cmpi .sge q 8#32 = 1#1 then q - 16#32 else q

/-- The low nibble: the reference's and the kernel's decoding agree on every byte. -/
theorem lowBits_apply (w : Vec Ideal S7168x9216 .i8) (k : Fin 7168) (j : Fin 9216) :
    decoded (lowBits w (ix2 k j)) = Cert.KernelIdeal.Block.codeBits 0 (w (ix2 k j)) := by
  unfold lowBits
  pointwise
  generalize w (ix2 k j) = b
  revert b
  decide +kernel

/-- The high nibble: likewise. -/
theorem highBits_apply (w : Vec Ideal S7168x9216 .i8) (k : Fin 7168) (j : Fin 9216) :
    decoded (highBits w (ix2 k j)) = Cert.KernelIdeal.Block.codeBits 1 (w (ix2 k j)) := by
  unfold highBits
  pointwise
  generalize w (ix2 k j) = b
  revert b
  decide +kernel

end Cert.ReferenceIdeal.Fields
-- ==== Proof.ReferenceValues.lean ====
/- The reference's fields at an index, over the extended reals. -/
module

public import proofs.«01_k».proof.Proof.Nibbles
public import proofs.«01_k».proof.Proof.Values

@[expose] public section

set_option maxRecDepth 16384

noncomputable section

namespace Cert.ReferenceIdeal.Fields

open Idealize.ShloMosaic Idealize.ShloMosaic.Pointwise Idealize.ShloMosaic.TcCoe
open Cert.ReferenceIdeal Cert.ReferenceIdeal.Gen Cert.ReferenceIdeal.Value

/-! ## At an index, over the extended reals -/

/-- The weight of half of the columns, at an index. -/
theorem half_apply (q : IVec S7168x9216 32) (s : FVec Ideal S56x9216 .bf16) (a : Vec Ideal S7168x64 .bf16)
    (b : FVec Ideal S64x9216 .bf16) (k : Fin 7168) (j : Fin 9216) :
    half q s a b (ix2 k j) = FloatOps.sitofp (F := Ideal) FTy.bf16 (decoded (q (ix2 k j))) * s (ix2 ⟨k.val / 128, by omega⟩ j)
      + 2 * ∑ r : Fin 64, a (ix2 k r) * b (ix2 r j) := by
  unfold half
  pointwise
  rw [Cert.KernelIdeal.Block.two_eq]
  rfl

/-- The norms of half of the columns, at an index. -/
theorem halfNorm_apply (v : FVec Ideal S7168x9216 .f32) (j : Fin 9216) :
    halfNorm v (ix1 j) = Ideal.sqrt (∑ k : Fin 7168, v (ix2 k j) * v (ix2 k j)) := by
  unfold halfNorm
  pointwise

/-- The products of half of the columns, at an index. -/
theorem halfOut_apply (x : Vec Ideal S3x512x7168 .bf16) (v : FVec Ideal S7168x9216 .f32) (g : FVec Ideal S9216 .f32)
    (p : Fin 3) (r : Fin 512) (j : Fin 9216) :
    halfOut x v g (ix3 p r j) = (∑ k : Fin 7168, x (ix3 p r k) * v (ix2 k j)) * Ideal.div (g (ix1 j)) (halfNorm v (ix1 j)) := by
  unfold halfOut
  pointwise

/-- The second result from its halves, at an index. -/
theorem joinNorm_apply (e o : FVec Ideal S9216 .f32) (n : Fin 18432) :
    joinNorm e o (ix2 0 n) = if n.val % 2 = 0 then e (ix1 ⟨n.val / 2, by omega⟩) else o (ix1 ⟨n.val / 2, by omega⟩) := by
  unfold joinNorm
  pointwise
  by_cases h : n.val % 2 = 0
  · rw [dif_pos (by omega), if_pos h]
  · rw [dif_neg (by omega), if_neg h]

/-- The columns of the two halves, interleaved. -/
theorem interleave_apply (e o : FVec Ideal S3x512x9216x1 .f32) (p : Fin 3) (r : Fin 512) (n : Fin 18432) :
    shapeCast S3x512x18432 (concatenate S3x512x9216x2 3 [⟨S3x512x9216x1, e⟩, ⟨S3x512x9216x1, o⟩]
      concatenates_S3x512x9216x1_S3x512x9216x1_S3x512x9216x2_d3) shapeCasts_S3x512x9216x2_S3x512x18432 (ix3 p r n)
      = if n.val % 2 = 0 then e (ix4 p r ⟨n.val / 2, by omega⟩ 0) else o (ix4 p r ⟨n.val / 2, by omega⟩ 0) := by
  pointwise
  by_cases h : n.val % 2 = 0
  · rw [dif_pos (by omega), if_pos h]
    exact congrArg e (congrArg (ix4 p r _) (Subsingleton.elim _ _))
  · rw [dif_neg (by omega), if_neg h]
    exact congrArg o (congrArg (ix4 p r _) (Subsingleton.elim _ _))

/-- The rows of the first result. -/
theorem rows_apply (y : FVec Ideal S3x512x18432 .bf16) (r : Fin 1536) (n : Fin 18432) :
    shapeCast S1536x18432 y shapeCasts_S3x512x18432_S1536x18432 (ix2 r n)
      = y (ix3 ⟨r.val / 512, by omega⟩ ⟨r.val % 512, Nat.mod_lt _ (by decide)⟩ n) := by
  pointwise

/-- A half with a unit axis behind. -/
theorem column_apply (e : FVec Ideal S3x512x9216 .f32) (p : Fin 3) (r : Fin 512) (j : Fin 9216) (z : Fin 1) :
    broadcastInDim S3x512x9216x1 ![0, 1, 2] bcast_S3x512x9216_S3x512x9216x1_0_1_2 e (ix4 p r j z) = e (ix3 p r j) := by
  pointwise

/-- Over the extended reals a rounding is the identity. -/
theorem rounded_apply (y : FVec Ideal S3x512x18432 .f32) (i : S3x512x18432.Idx) : truncf .bf16 y bitsLt_bf16_f32 i = y i := rfl

/-- The first result from its halves, at an index. -/
theorem joinOut_apply (e o : FVec Ideal S3x512x9216 .f32) (r : Fin 1536) (n : Fin 18432) :
    joinOut e o (ix2 r n) = if n.val % 2 = 0
      then e (ix3 ⟨r.val / 512, by omega⟩ ⟨r.val % 512, Nat.mod_lt _ (by decide)⟩ ⟨n.val / 2, by omega⟩)
      else o (ix3 ⟨r.val / 512, by omega⟩ ⟨r.val % 512, Nat.mod_lt _ (by decide)⟩ ⟨n.val / 2, by omega⟩) := by
  unfold joinOut
  rw [rows_apply, rounded_apply, interleave_apply, column_apply, column_apply]

end Cert.ReferenceIdeal.Fields
-- ==== Proof.Run.lean ====
/- The generated run of the kernel's body is the one of `Block`. -/
module

public import proofs.«01_k».proof.Proof.Block

@[expose] public section

set_option maxRecDepth 16384

noncomputable section

namespace Cert.KernelIdeal.Block

open Idealize.ShloMosaic Idealize.ShloMosaic.TcCoe Idealize.ShloMosaic.Tactic
open Cert.KernelIdeal Cert.KernelIdeal.Gen

variable {F : FTy → Type} [FloatOps F]

variable (c : Dev nD) (i : grid0.Coords) (arg1 : Memref sig .tc .vmem S1536x7168 .bf16) (harg1 : arg1.IsWhole)
  (arg2 : Memref sig .tc .vmem S7168x128 .i8) (harg2 : arg2.IsWhole) (arg3 : Memref sig .tc .vmem S56x256 .bf16) (harg3 : arg3.IsWhole)
  (arg4 : Memref sig .tc .vmem S7168x64 .bf16) (harg4 : arg4.IsWhole) (arg5 : Memref sig .tc .vmem S64x256 .bf16) (harg5 : arg5.IsWhole)
  (arg6 : Memref sig .tc .vmem S1x256 .f32) (harg6 : arg6.IsWhole) (arg7 : Memref sig .tc .vmem S1536x256 .bf16) (harg7 : arg7.IsWhole)
  (arg8 : Memref sig .tc .vmem S1x256 .f32) (harg8 : arg8.IsWhole) (arg9 : Memref sig .tc .vmem S7168x256 .bf16) (harg9 : arg9.IsWhole)
  (x0 : Vec F S1536x7168 .bf16) (x1 : Vec F S7168x128 .i8) (x2 : Vec F S56x256 .bf16) (x3 : Vec F S7168x64 .bf16)
  (x4 : Vec F S64x256 .bf16) (x5 : Vec F S1x256 .f32)

/-- The columns' norms, even columns first, from the staged blocks. -/
def normsAt : FVec F S1x256 .f32 :=
  norms (sumsAfter arg2 harg2 arg3 harg3 arg4 harg4 arg5 harg5 x1 x2 x3 x4 56 (le_refl _))

/-- The gains of the columns, from the staged blocks. -/
def gainAt : FVec F S1x256 .f32 :=
  gain (View.readAt (Elt F) arg6.view (Rect.unit (s := S1x256) ![0, 0] S1x256.size inb_S1x256_S1x256_0_0).toLoadRect (harg6.unread x5))
    (normsAt arg2 harg2 arg3 harg3 arg4 harg4 arg5 harg5 x1 x2 x3 x4)

/-- The run's stores into the first result are the three row tiles' products. -/
theorem run_first :
    (kernelRun0_A c i arg1 harg1 arg2 harg2 arg3 harg3 arg4 harg4 arg5 harg5 arg6 harg6 arg7 harg7 arg8 harg8 arg9 harg9 x0 x1 x2 x3 x4 x5).1
      = rowStoresTo arg1 harg1 x0 (scratchRead arg2 harg2 arg3 harg3 arg4 harg4 arg5 harg5 x1 x2 x3 x4 arg9)
          (gainAt arg2 harg2 arg3 harg3 arg4 harg4 arg5 harg5 arg6 harg6 x1 x2 x3 x4 x5) 3 (le_refl _) := by
  sl_kernel_rfl

/-- The run's one store into the second result is the row of norms. -/
theorem run_second :
    (kernelRun0_A c i arg1 harg1 arg2 harg2 arg3 harg3 arg4 harg4 arg5 harg5 arg6 harg6 arg7 harg7 arg8 harg8 arg9 harg9 x0 x1 x2 x3 x4 x5).2.1
      = [⟨Rect.unit (s := S1x256) ![0, 0] S1x256.size inb_S1x256_S1x256_0_0,
          normRow (normsAt arg2 harg2 arg3 harg3 arg4 harg4 arg5 harg5 x1 x2 x3 x4)⟩] := by
  sl_kernel_rfl

end Cert.KernelIdeal.Block
-- ==== Proof.Point.lean ====
/- What one grid point of the kernel leaves in its two result blocks, at an index, from the staged blocks. -/
module

public import proofs.«01_k».proof.Proof.Run
public import proofs.«01_k».proof.Proof.Values

@[expose] public section

set_option maxRecDepth 16384

noncomputable section

namespace Cert.KernelIdeal.Block

open Idealize.ShloMosaic Idealize.ShloMosaic.Pointwise Idealize.ShloMosaic.Pipeline
open Cert.KernelIdeal Cert.KernelIdeal.Gen

/-- A block read from a staged array, at an index. -/
theorem read_unit {A B a b p q : ℕ} {e : EltTy} (arg : Memref sig .tc .vmem ⟨2, ![A, B]⟩ e) (harg : arg.IsWhole)
    (X : Vec Ideal ⟨2, ![A, B]⟩ e)
    (inb : ∀ i, (![p, q] : Fin 2 → ℕ) i + (⟨2, ![a, b]⟩ : Shape).size i ≤ (⟨2, ![A, B]⟩ : Shape).size i)
    (r : Fin a) (l : Fin b) (hr : p + r.val < A) (hl : q + l.val < B) :
    View.readAt (Elt Ideal) arg.view (Rect.unit (s := ⟨2, ![A, B]⟩) ![p, q] (⟨2, ![a, b]⟩ : Shape).size inb).toLoadRect
      (harg.unread X) (ix2 r l) = X (ix2 ⟨p + r.val, hr⟩ ⟨q + l.val, hl⟩) :=
  (harg.readAt_unread X _ _).trans (congrArg X (unit_idx inb r l hr hl))

variable (arg2 : Memref sig .tc .vmem S7168x128 .i8) (harg2 : arg2.IsWhole) (arg3 : Memref sig .tc .vmem S56x256 .bf16)
  (harg3 : arg3.IsWhole) (arg4 : Memref sig .tc .vmem S7168x64 .bf16) (harg4 : arg4.IsWhole)
  (arg5 : Memref sig .tc .vmem S64x256 .bf16) (harg5 : arg5.IsWhole)
  (x1 : Vec Ideal S7168x128 .i8) (x2 : Vec Ideal S56x256 .bf16) (x3 : Vec Ideal S7168x64 .bf16) (x4 : Vec Ideal S64x256 .bf16)

/-- The tile's weight in row `k` and lane `l`, from the staged blocks. -/
def tileWeight (k : Fin 7168) (l : Fin 256) : EReal :=
  weight (x1 (ix2 k ⟨l.val % 128, Nat.mod_lt _ (by decide)⟩)) (l.val / 128) (x2 (ix2 ⟨k.val / 128, by omega⟩ (col l)))
    (fun r => x3 (ix2 k r)) (fun r => x4 (ix2 r (col l)))

/-- Row `r` of group `g` is row `128 g + r` of the tile's weight. -/
theorem groupAt_apply (g : ℕ) (h : g < 56) (r : Fin 128) (l : Fin 256) :
    groupAt arg2 harg2 arg3 harg3 arg4 harg4 arg5 harg5 x1 x2 x3 x4 g h (ix2 r l)
      = tileWeight x1 x2 x3 x4 ⟨128 * g + r.val, by omega⟩ l := by
  have hd : (128 * g + r.val) / 128 = g := by omega
  have hr : 512 * (g / 4) + (128 * (g % 4) + r.val) = 128 * g + r.val := by omega
  refine (group_apply _ _ g h _ (g % 4) (Nat.mod_lt _ (by decide)) r l).trans (congrArg₂ (· + ·) (congrArg₂ (· * ·)
    (congrArg (code _) ((read_unit arg2 harg2 x1 _ r ⟨l.val % 128, Nat.mod_lt _ (by decide)⟩ (by omega) (by omega)).trans (congrArg x1 ?_)))
    ((read_unit arg3 harg3 x2 _ ⟨g, h⟩ (col l) (by omega) (by omega)).trans (congrArg x2 ?_)))
    ((ab_apply _ _ _ l).trans (Finset.sum_congr rfl fun q _ => congrArg₂ (· * ·)
      ((read_unit arg4 harg4 x3 _ ⟨128 * (g % 4) + r.val, by omega⟩ q (by simp only []; omega) (by omega)).trans (congrArg x3 ?_))
      ((b2_apply _ q l).trans (congrArg (· * 2) ((read_unit arg5 harg5 x4 _ q (col l) (by omega) (by omega)).trans (congrArg x4 ?_)))))))
  · exact congrArg₂ ix2 rfl (Fin.ext (Nat.zero_add _))
  · exact congrArg₂ ix2 (Fin.ext ((Nat.zero_add _).trans hd.symm)) (Fin.ext (Nat.zero_add _))
  · exact congrArg₂ ix2 (Fin.ext hr) (Fin.ext (Nat.zero_add _))
  · exact congrArg₂ ix2 (Fin.ext (Nat.zero_add _)) (Fin.ext (Nat.zero_add _))

/-- The running sums after `n` groups, at an index. -/
theorem sumsAfter_apply (s : Fin 8) (l : Fin 256) : ∀ (n : ℕ) (h : n ≤ 56),
    sumsAfter arg2 harg2 arg3 harg3 arg4 harg4 arg5 harg5 x1 x2 x3 x4 n h (ix2 s l)
      = ∑ g : Fin n, ∑ j : Fin 16, tileWeight x1 x2 x3 x4 ⟨128 * g.val + (j.val * 8 + s.val), by omega⟩ l
          * tileWeight x1 x2 x3 x4 ⟨128 * g.val + (j.val * 8 + s.val), by omega⟩ l
  | 0, _ => by
    show Ideal.ofBits FTy.f32 0x00000000#32 = _
    simp
  | n + 1, h => by
    rw [Fin.sum_univ_castSucc]
    show sumsAfter arg2 harg2 arg3 harg3 arg4 harg4 arg5 harg5 x1 x2 x3 x4 n _ (ix2 s l) + squares _ (ix2 s l) = _
    rw [sumsAfter_apply s l n, squares_apply]
    simp only [groupAt_apply]
    rfl

/-- The 7168 rows, one by one: the row's place in its eight, its group, its eight in the group. -/
def rows : (Fin 8 × Fin 56 × Fin 16) ≃ Fin 7168 where
  toFun p := ⟨128 * p.2.1.val + (p.2.2.val * 8 + p.1.val), by omega⟩
  invFun k := (⟨k.val % 8, by omega⟩, ⟨k.val / 128, by omega⟩, ⟨k.val % 128 / 8, by omega⟩)
  left_inv p := by
    obtain ⟨s, g, j⟩ := p
    refine Prod.ext (Fin.ext ?_) (Prod.ext (Fin.ext ?_) (Fin.ext ?_)) <;> simp only [] <;> omega
  right_inv k := Fin.ext (by simp only []; omega)

/-- The sum over all rows, regrouped as the kernel sums it. -/
theorem sum_rows (f : Fin 7168 → EReal) :
    ∑ s : Fin 8, ∑ g : Fin 56, ∑ j : Fin 16, f ⟨128 * g.val + (j.val * 8 + s.val), by omega⟩ = ∑ k, f k := by
  rw [← rows.sum_comp f, Fintype.sum_prod_type]
  refine Finset.sum_congr rfl fun s _ => ?_
  rw [Fintype.sum_prod_type]
  rfl

/-- The norm of the tile's column in lane `l`. -/
def tileNorm (l : Fin 256) : EReal := Ideal.sqrt (∑ k, tileWeight x1 x2 x3 x4 k l * tileWeight x1 x2 x3 x4 k l)

/-- The kernel's norms are the norms of the weight's columns. -/
theorem normsAt_apply (s : Fin 1) (l : Fin 256) :
    normsAt arg2 harg2 arg3 harg3 arg4 harg4 arg5 harg5 x1 x2 x3 x4 (ix2 s l) = tileNorm x1 x2 x3 x4 l := by
  unfold normsAt tileNorm
  rw [norms_apply]
  simp only [sumsAfter_apply]
  rw [sum_rows fun k => tileWeight x1 x2 x3 x4 k l * tileWeight x1 x2 x3 x4 k l]

/-- The tile's weight as the scratch array. -/
def weightArray : Vec Ideal S7168x256 .bf16 := fun i => tileWeight x1 x2 x3 x4 (i 0) (i 1)

/-- Every store into the scratch writes rows of the tile's weight. -/
theorem storesTo_agree : ∀ (n : ℕ) (h : n ≤ 56), ∀ p ∈ storesTo arg2 harg2 arg3 harg3 arg4 harg4 arg5 harg5 x1 x2 x3 x4 n h,
    ∀ x, p.2 x = weightArray x1 x2 x3 x4 (p.1.emb x)
  | 0, _, p, hp, _ => absurd hp (List.not_mem_nil)
  | n + 1, h, p, hp, x => by
    rcases List.mem_cons.mp hp with rfl | hp
    · obtain ⟨r, l, rfl⟩ : ∃ (r : Fin 128) (l : Fin 256), x = ix2 r l := ⟨x 0, x 1, (eq_ix2 x)⟩
      rw [shapeCast_self]
      refine (groupAt_apply arg2 harg2 arg3 harg3 arg4 harg4 arg5 harg5 x1 x2 x3 x4 n h r l).trans ?_
      exact (congrArg (fun i : S7168x256.Idx => tileWeight x1 x2 x3 x4 (i 0) (i 1))
        ((unit_idx (inb_v n h) r l (by omega) (by omega)).trans (congrArg₂ ix2 rfl (Fin.ext (Nat.zero_add _))))).symm
    · exact storesTo_agree n (Nat.le_of_succ_le h) p hp x

/-- The stores of the first `n` groups cover the first `128 n` rows. -/
theorem storesTo_cover : ∀ (n : ℕ) (h : n ≤ 56) (y : S7168x256.Idx), (y 0).val < 128 * n →
    ∃ p ∈ storesTo arg2 harg2 arg3 harg3 arg4 harg4 arg5 harg5 x1 x2 x3 x4 n h, y ∈ p.1.set
  | 0, _, _, hy => absurd hy (by omega)
  | n + 1, h, y, hy => by
    by_cases hn : (y 0).val < 128 * n
    · obtain ⟨p, hp, hy⟩ := storesTo_cover n (Nat.le_of_succ_le h) y hn
      exact ⟨p, List.mem_cons_of_mem _ hp, hy⟩
    · refine ⟨_, List.mem_cons_self, ?_⟩
      show y ∈ (Rect.unit (s := S7168x256) ![128 * n, 0] S128x256.size (inb_v n h)).set
      rw [Rect.mem_set_unit]
      refine Fin.forall_fin_two.mpr ⟨⟨?_, ?_⟩, ⟨Nat.zero_le _, ?_⟩⟩
      · show 128 * n ≤ (y 0).val
        omega
      · show (y 0).val < 128 * n + 128
        omega
      · show (y 1).val < 0 + 256
        have : (y 1).val < 256 := (y 1).isLt
        omega

/-- A whole array read after stores that agree with `G` and cover it is `G`. -/
theorem readCov_of_pieces (v : View sig .tc .vmem S7168x256 .bf16) (L : List (View.Piece (Elt Ideal) S7168x256 .bf16))
    (G : Vec Ideal S7168x256 .bf16) (hL : ∀ p ∈ L, ∀ x, p.2 x = G (p.1.emb x)) (hc : ∀ y, ∃ p ∈ L, y ∈ p.1.set)
    (k : Fin 7168) (l : Fin 256) :
    v.readCov L (Rect.unit (s := S7168x256) ![0, 0] S7168x256.size inb_S7168x256_S7168x256_0_0).toLoadRect (ix2 k l) = G (ix2 k l) := by
  rw [View.readCov_eq_canon']
  refine (View.canon_apply_of_pieces G L hL _ (hc _)).trans (congrArg G ?_)
  exact (unit_idx inb_S7168x256_S7168x256_0_0 k l (by omega) (by omega)).trans
    (congrArg₂ ix2 (Fin.ext (Nat.zero_add _)) (Fin.ext (Nat.zero_add _)))

/-- The scratch as the matrix product reads it is the tile's weight. -/
theorem scratchRead_apply (arg9 : Memref sig .tc .vmem S7168x256 .bf16) (k : Fin 7168) (l : Fin 256) :
    scratchRead arg2 harg2 arg3 harg3 arg4 harg4 arg5 harg5 x1 x2 x3 x4 arg9 (ix2 k l) = tileWeight x1 x2 x3 x4 k l :=
  readCov_of_pieces arg9.view _ (weightArray x1 x2 x3 x4)
    (storesTo_agree arg2 harg2 arg3 harg3 arg4 harg4 arg5 harg5 x1 x2 x3 x4 56 (le_refl _))
    (fun y => storesTo_cover arg2 harg2 arg3 harg3 arg4 harg4 arg5 harg5 x1 x2 x3 x4 56 (le_refl _) y (y 0).isLt) k l

end Cert.KernelIdeal.Block
-- ==== Proof.Results.lean ====
/- The two result blocks of one grid point, at an index. -/
module

public import proofs.«01_k».proof.Proof.Point

@[expose] public section

set_option maxRecDepth 16384

noncomputable section

namespace Cert.KernelIdeal.Block

open Idealize.ShloMosaic Idealize.ShloMosaic.Pointwise Idealize.ShloMosaic.Pipeline
open Cert.KernelIdeal Cert.KernelIdeal.Gen

section Rows

variable (arg1 : Memref sig .tc .vmem S1536x7168 .bf16) (harg1 : arg1.IsWhole) (x0 : Vec Ideal S1536x7168 .bf16)
  (v : Vec Ideal S7168x256 .bf16) (q : FVec Ideal S1x256 .f32)

/-- The first result's block as the row tiles write it. -/
def rowArray : Vec Ideal S1536x256 .bf16 := fun i =>
  (∑ k : Fin 7168, x0 (ix2 (i 0) k) * v (ix2 k (Lanes.slot (i 1)))) * q (ix2 0 (Lanes.slot (i 1)))

/-- The product of row tile `t`, at an index. -/
theorem productAt_apply (t : ℕ) (h : t < 3) (r : Fin 512) (l : Fin 256) :
    productAt arg1 harg1 x0 v q t h (ix2 r l)
      = (∑ k : Fin 7168, x0 (ix2 ⟨512 * t + r.val, by omega⟩ k) * v (ix2 k l)) * q (ix2 0 l) := by
  refine (product_apply _ v q r l).trans (congrArg (· * q (ix2 0 l)) (Finset.sum_congr rfl fun k _ => congrArg (· * v (ix2 k l)) ?_))
  exact (read_unit arg1 harg1 x0 (inb_x t h) r k (by omega) (by omega)).trans (congrArg x0 (congrArg₂ ix2 rfl (Fin.ext (Nat.zero_add _))))

/-- Every store into the first result's block writes elements of `rowArray`. -/
theorem rowStoresTo_agree : ∀ (n : ℕ) (h : n ≤ 3), ∀ p ∈ rowStoresTo arg1 harg1 x0 v q n h,
    ∀ x, p.2 x = rowArray x0 v q (p.1.emb x)
  | 0, _, p, hp, _ => absurd hp (List.not_mem_nil)
  | n + 1, h, p, hp, x => by
    rcases List.mem_cons.mp hp with rfl | hp
    · obtain ⟨r, l, rfl⟩ : ∃ (r : Fin 512) (l : Fin 128), x = ix2 r l := ⟨x 0, x 1, (eq_ix2 x)⟩
      refine (tileHigh_apply _ r l).trans ((productAt_apply arg1 harg1 x0 v q n h r _).trans ?_)
      exact (congrArg (rowArray x0 v q) (unit_idx (inb_y n h 128 (le_refl _)) r l (by omega) (by omega))).symm
    rcases List.mem_cons.mp hp with rfl | hp
    · obtain ⟨r, l, rfl⟩ : ∃ (r : Fin 512) (l : Fin 128), x = ix2 r l := ⟨x 0, x 1, (eq_ix2 x)⟩
      refine (tileLow_apply _ r l).trans ((productAt_apply arg1 harg1 x0 v q n h r _).trans ?_)
      exact (congrArg (rowArray x0 v q) ((unit_idx (inb_y n h 0 (Nat.zero_le _)) r l (by omega) (by omega)).trans
        (congrArg₂ ix2 rfl (Fin.ext (Nat.zero_add _))))).symm
    · exact rowStoresTo_agree n (Nat.le_of_succ_le h) p hp x

/-- The stores of the first `n` row tiles cover the first `512 n` rows. -/
theorem rowStoresTo_cover : ∀ (n : ℕ) (h : n ≤ 3) (y : S1536x256.Idx), (y 0).val < 512 * n →
    ∃ p ∈ rowStoresTo arg1 harg1 x0 v q n h, y ∈ p.1.set
  | 0, _, _, hy => absurd hy (by omega)
  | n + 1, h, y, hy => by
    have hc : (y 1).val < 256 := (y 1).isLt
    by_cases hn : (y 0).val < 512 * n
    · obtain ⟨p, hp, hy⟩ := rowStoresTo_cover n (Nat.le_of_succ_le h) y hn
      exact ⟨p, List.mem_cons_of_mem _ (List.mem_cons_of_mem _ hp), hy⟩
    by_cases hl : (y 1).val < 128
    · refine ⟨_, List.mem_cons_of_mem _ List.mem_cons_self, ?_⟩
      show y ∈ (Rect.unit (s := S1536x256) ![512 * n, 0] S512x128.size (inb_y n h 0 (Nat.zero_le _))).set
      rw [Rect.mem_set_unit]
      refine Fin.forall_fin_two.mpr ⟨⟨?_, ?_⟩, ⟨Nat.zero_le _, ?_⟩⟩
      · show 512 * n ≤ (y 0).val
        omega
      · show (y 0).val < 512 * n + 512
        omega
      · show (y 1).val < 0 + 128
        omega
    · refine ⟨_, List.mem_cons_self, ?_⟩
      show y ∈ (Rect.unit (s := S1536x256) ![512 * n, 128] S512x128.size (inb_y n h 128 (le_refl _))).set
      rw [Rect.mem_set_unit]
      refine Fin.forall_fin_two.mpr ⟨⟨?_, ?_⟩, ⟨?_, ?_⟩⟩
      · show 512 * n ≤ (y 0).val
        omega
      · show (y 0).val < 512 * n + 512
        omega
      · show 128 ≤ (y 1).val
        omega
      · show (y 1).val < 128 + 128
        omega

end Rows

variable (c : Dev nD) (i : grid0.Coords) (arg1 : Memref sig .tc .vmem S1536x7168 .bf16) (harg1 : arg1.IsWhole)
  (arg2 : Memref sig .tc .vmem S7168x128 .i8) (harg2 : arg2.IsWhole) (arg3 : Memref sig .tc .vmem S56x256 .bf16) (harg3 : arg3.IsWhole)
  (arg4 : Memref sig .tc .vmem S7168x64 .bf16) (harg4 : arg4.IsWhole) (arg5 : Memref sig .tc .vmem S64x256 .bf16) (harg5 : arg5.IsWhole)
  (arg6 : Memref sig .tc .vmem S1x256 .f32) (harg6 : arg6.IsWhole) (arg7 : Memref sig .tc .vmem S1536x256 .bf16) (harg7 : arg7.IsWhole)
  (arg8 : Memref sig .tc .vmem S1x256 .f32) (harg8 : arg8.IsWhole) (arg9 : Memref sig .tc .vmem S7168x256 .bf16) (harg9 : arg9.IsWhole)
  (x0 : Vec Ideal S1536x7168 .bf16) (x1 : Vec Ideal S7168x128 .i8) (x2 : Vec Ideal S56x256 .bf16) (x3 : Vec Ideal S7168x64 .bf16)
  (x4 : Vec Ideal S64x256 .bf16) (x5 : Vec Ideal S1x256 .f32)

/-- The first result's block: the product of `x`'s row and the weight's column, times the column's gain. -/
theorem out_first (r : Fin 1536) (l : Fin 256) :
    out0_A_6 c i arg1 harg1 arg2 harg2 arg3 harg3 arg4 harg4 arg5 harg5 arg6 harg6 arg7 harg7 arg8 harg8 arg9 harg9 x0 x1 x2 x3 x4 x5 (ix2 r l)
      = (∑ k : Fin 7168, x0 (ix2 r k) * tileWeight x1 x2 x3 x4 k (Lanes.slot l))
          * Ideal.div (x5 (ix2 0 l)) (tileNorm x1 x2 x3 x4 (Lanes.slot l)) := by
  unfold out0_A_6
  rw [View.read_writes_junk_eq_canon, run_first]
  refine (View.canon_apply_of_pieces _ _ (rowStoresTo_agree arg1 harg1 x0 _ _ 3 (le_refl _)) (ix2 r l)
    (rowStoresTo_cover arg1 harg1 x0 _ _ 3 (le_refl _) (ix2 r l) r.isLt)).trans ?_
  refine congrArg₂ (· * ·) (Finset.sum_congr rfl fun k _ => congrArg (x0 (ix2 r k) * ·) (scratchRead_apply ..)) ?_
  refine (gain_apply _ _ 0 (Lanes.slot l)).trans (congrArg₂ Ideal.div ?_ (normsAt_apply ..))
  refine (read_unit arg6 harg6 x5 _ 0 _ (by decide) (by omega)).trans (congrArg x5 ?_)
  exact congrArg₂ ix2 rfl (Fin.ext ((Nat.zero_add _).trans (congrArg Fin.val (col_slot l))))

/-- The second result's block: the norm of the weight's column. -/
theorem out_second (l : Fin 256) :
    out0_A_7 c i arg1 harg1 arg2 harg2 arg3 harg3 arg4 harg4 arg5 harg5 arg6 harg6 arg7 harg7 arg8 harg8 arg9 harg9 x0 x1 x2 x3 x4 x5 (ix2 0 l)
      = tileNorm x1 x2 x3 x4 (Lanes.slot l) := by
  unfold out0_A_7
  rw [View.read_writes_junk_eq_canon, run_second]
  refine (congrFun (View.canon_cons_unit_zero (by funext a; fin_cases a <;> rfl) _ _ []) (ix2 0 l)).trans ?_
  exact (normRow_apply _ 0 l).trans (normsAt_apply ..)

end Cert.KernelIdeal.Block
-- ==== Proof.Grid.lean ====
/- The kernel's two result arrays after the run, at an index, as functions of the arguments. -/
module

public import proofs.«01_k».proof.Proof.Results

@[expose] public section

set_option maxRecDepth 16384

noncomputable section

namespace Cert.KernelIdeal.Grid

open Idealize.ShloMosaic Idealize.ShloMosaic.Pointwise Idealize.ShloMosaic.Pipeline Idealize.ShloMosaic.TcCoe
open Cert.KernelIdeal Cert.KernelIdeal.Gen Cert.KernelIdeal.Block

/-! ## The results as functions of the arguments -/

section Math

variable (X : Vec Ideal S3x512x7168 .bf16) (W : Vec Ideal S7168x9216 .i8) (S : Vec Ideal S56x18432 .bf16)
  (A : Vec Ideal S7168x64 .bf16) (B : Vec Ideal S64x18432 .bf16) (M : Vec Ideal S18432 .f32)

/-- The weight in row `k` and column `n`. -/
def fullWeight (k : Fin 7168) (n : Fin 18432) : EReal :=
  weight (W (ix2 k ⟨n.val / 2, by omega⟩)) (n.val % 2) (S (ix2 ⟨k.val / 128, by omega⟩ n)) (fun r => A (ix2 k r)) (fun r => B (ix2 r n))

/-- The norm of the weight's column `n`. -/
def fullNorm (n : Fin 18432) : EReal := Ideal.sqrt (∑ k, fullWeight W S A B k n * fullWeight W S A B k n)

/-- The product of `x`'s row and the weight's column, times the column's magnitude over its norm. -/
def fullOut (r : Fin 1536) (n : Fin 18432) : EReal :=
  (∑ k, X (ix3 ⟨r.val / 512, by omega⟩ ⟨r.val % 512, Nat.mod_lt _ (by decide)⟩ k) * fullWeight W S A B k n)
    * Ideal.div (M (ix1 n)) (fullNorm W S A B n)

end Math

/-- Equal arguments give equal norms and equal products. -/
theorem fullNorm_congr {W W' : Vec Ideal S7168x9216 .i8} {S S' : Vec Ideal S56x18432 .bf16} {A A' : Vec Ideal S7168x64 .bf16}
    {B B' : Vec Ideal S64x18432 .bf16} (hW : W = W') (hS : S = S') (hA : A = A') (hB : B = B') (n : Fin 18432) :
    fullNorm W S A B n = fullNorm W' S' A' B' n := by
  rw [hW, hS, hA, hB]

/-- Likewise the products. -/
theorem fullOut_congr {X X' : Vec Ideal S3x512x7168 .bf16} {W W' : Vec Ideal S7168x9216 .i8} {S S' : Vec Ideal S56x18432 .bf16}
    {A A' : Vec Ideal S7168x64 .bf16} {B B' : Vec Ideal S64x18432 .bf16} {M M' : Vec Ideal S18432 .f32}
    (hX : X = X') (hW : W = W') (hS : S = S') (hA : A = A') (hB : B = B') (hM : M = M') (r : Fin 1536) (n : Fin 18432) :
    fullOut X W S A B M r n = fullOut X' W' S' A' B' M' r n := by
  rw [hX, hW, hS, hA, hB, hM]

/-! ## The blocks of the arguments -/

variable (m : (ℓ : Loc nD τ sig) → Buf (Elt Ideal) ℓ) (c : Dev nD) (t : Fin cfg0.N)

/-- There are 72 points. -/
theorem t_lt : t.val < 72 := t.isLt

/-- The blocks' places: windows 0 and 3 take their whole arrays, the others move along the second axis. -/
theorem index_zero : ∀ t : Fin grid0.N, (∀ a, win0_0.index t a = 0) ∧ (∀ a, win0_3.index t a = 0) ∧ win0_1.index t 0 = 0
    ∧ win0_2.index t 0 = 0 ∧ win0_4.index t 0 = 0 ∧ win0_5.index t 0 = 0 ∧ win0_6.index t 0 = 0 ∧ win0_7.index t 0 = 0 := by
  decide +kernel

/-- A moving window's block at point `t` is block `t` of the second axis. -/
theorem index_one : ∀ t : Fin grid0.N, win0_1.index t 1 = t.val ∧ win0_2.index t 1 = t.val ∧ win0_4.index t 1 = t.val
    ∧ win0_5.index t 1 = t.val ∧ win0_6.index t 1 = t.val ∧ win0_7.index t 1 = t.val := by
  decide +kernel

/-- Point `t`'s block of codes. -/
theorem block_codes (k : Fin 7168) (b : Fin 128) :
    iblk m c 1 t (ix2 k b) = m ((c : Thread nD τ).loc main_arg1) (ix2 k ⟨128 * t.val + b.val, by have := t_lt t; omega⟩) := by
  show V m c main_arg1 ((win0_1.blk t).view.emb (ix2 k b)) = _
  rw [V_main_arg1]
  refine congrArg (m ((c : Thread nD τ).loc main_arg1)) (funext (Fin.forall_fin_two.mpr ⟨Fin.ext ?_, Fin.ext ?_⟩))
  · refine (win0_1.rect_emb_val t (ix2 k b) 0).trans ?_
    rw [(index_zero t).2.2.1, Nat.zero_mul, Nat.zero_add]
    rfl
  · refine (win0_1.rect_emb_val t (ix2 k b) 1).trans ?_
    rw [(index_one t).1, Nat.mul_comm]
    rfl

/-- Point `t`'s block of scales. -/
theorem block_scales (k : Fin 56) (b : Fin 256) :
    iblk m c 2 t (ix2 k b) = m ((c : Thread nD τ).loc main_arg2) (ix2 k ⟨256 * t.val + b.val, by have := t_lt t; omega⟩) := by
  show V m c main_arg2 ((win0_2.blk t).view.emb (ix2 k b)) = _
  rw [V_main_arg2]
  refine congrArg (m ((c : Thread nD τ).loc main_arg2)) (funext (Fin.forall_fin_two.mpr ⟨Fin.ext ?_, Fin.ext ?_⟩))
  · refine (win0_2.rect_emb_val t (ix2 k b) 0).trans ?_
    rw [(index_zero t).2.2.2.1, Nat.zero_mul, Nat.zero_add]
    rfl
  · refine (win0_2.rect_emb_val t (ix2 k b) 1).trans ?_
    rw [(index_one t).2.1, Nat.mul_comm]
    rfl

/-- Point `t`'s block of the factor `b`. -/
theorem block_b (k : Fin 64) (b : Fin 256) :
    iblk m c 4 t (ix2 k b) = m ((c : Thread nD τ).loc main_arg4) (ix2 k ⟨256 * t.val + b.val, by have := t_lt t; omega⟩) := by
  show V m c main_arg4 ((win0_4.blk t).view.emb (ix2 k b)) = _
  rw [V_main_arg4]
  refine congrArg (m ((c : Thread nD τ).loc main_arg4)) (funext (Fin.forall_fin_two.mpr ⟨Fin.ext ?_, Fin.ext ?_⟩))
  · refine (win0_4.rect_emb_val t (ix2 k b) 0).trans ?_
    rw [(index_zero t).2.2.2.2.1, Nat.zero_mul, Nat.zero_add]
    rfl
  · refine (win0_4.rect_emb_val t (ix2 k b) 1).trans ?_
    rw [(index_one t).2.2.1, Nat.mul_comm]
    rfl

/-- Every point's block of the factor `a` is the whole array. -/
theorem block_a (k : Fin 7168) (b : Fin 64) : iblk m c 3 t (ix2 k b) = m ((c : Thread nD τ).loc main_arg3) (ix2 k b) := by
  show V m c main_arg3 ((win0_3.blk t).view.emb (ix2 k b)) = _
  rw [V_main_arg3]
  exact congrArg (m ((c : Thread nD τ).loc main_arg3)) (funext fun a =>
    Fin.ext (win0_3.rect_emb_val_of_index_zero t a ((index_zero t).2.1 a) (ix2 k b)))

/-- Before the grid, `x` is laid out in rows and the magnitudes in one row. -/
theorem V_main_v0 : V m c main_v0 = shapeCast S1536x7168 (m ((c : Thread nD τ).loc main_arg0)) shapeCasts_S3x512x7168_S1536x7168 := by
  rfl

/-- Likewise the magnitudes. -/
theorem V_main_v1 : V m c main_v1 = shapeCast S1x18432 (m ((c : Thread nD τ).loc main_arg5)) shapeCasts_S18432_S1x18432 := by
  rfl

/-- `x` in rows, at an index. -/
theorem rows_apply (x : Vec Ideal S3x512x7168 .bf16) (r : Fin 1536) (k : Fin 7168) :
    shapeCast S1536x7168 x shapeCasts_S3x512x7168_S1536x7168 (ix2 r k)
      = x (ix3 ⟨r.val / 512, by omega⟩ ⟨r.val % 512, Nat.mod_lt _ (by decide)⟩ k) := by
  pointwise

/-- The magnitudes in one row, at an index. -/
theorem row_apply (x : Vec Ideal S18432 .f32) (r : Fin 1) (n : Fin 18432) :
    shapeCast S1x18432 x shapeCasts_S18432_S1x18432 (ix2 r n) = x (ix1 n) := by
  pointwise

/-- Every point's block of `x` is all of its rows. -/
theorem block_x (r : Fin 1536) (k : Fin 7168) :
    iblk m c 0 t (ix2 r k) = m ((c : Thread nD τ).loc main_arg0) (ix3 ⟨r.val / 512, by omega⟩ ⟨r.val % 512, Nat.mod_lt _ (by decide)⟩ k) := by
  show V m c main_v0 ((win0_0.blk t).view.emb (ix2 r k)) = _
  rw [V_main_v0]
  refine (congrArg _ (funext fun a => Fin.ext (win0_0.rect_emb_val_of_index_zero t a ((index_zero t).1 a) (ix2 r k)))).trans
    (rows_apply (m ((c : Thread nD τ).loc main_arg0)) r k)

/-- Point `t`'s block of magnitudes. -/
theorem block_magnitude (b : Fin 256) :
    iblk m c 5 t (ix2 0 b) = m ((c : Thread nD τ).loc main_arg5) (ix1 ⟨256 * t.val + b.val, by have := t_lt t; omega⟩) := by
  show V m c main_v1 ((win0_5.blk t).view.emb (ix2 0 b)) = _
  rw [V_main_v1]
  refine (congrArg _ (funext (Fin.forall_fin_two.mpr ⟨Fin.ext ?_, Fin.ext ?_⟩))).trans
    (row_apply (m ((c : Thread nD τ).loc main_arg5)) 0 ⟨256 * t.val + b.val, by have := t_lt t; omega⟩)
  · refine (win0_5.rect_emb_val t (ix2 0 b) 0).trans ?_
    rw [(index_zero t).2.2.2.2.2.1, Nat.zero_mul, Nat.zero_add]
    rfl
  · refine (win0_5.rect_emb_val t (ix2 0 b) 1).trans ?_
    rw [(index_one t).2.2.2.1, Nat.mul_comm]
    rfl

/-! ## One point's results -/

/-- The argument `x`. -/
abbrev argX : Vec Ideal S3x512x7168 .bf16 := m ((c : Thread nD τ).loc main_arg0)
/-- The bytes of codes. -/
abbrev argW : Vec Ideal S7168x9216 .i8 := m ((c : Thread nD τ).loc main_arg1)
/-- The scales. -/
abbrev argS : Vec Ideal S56x18432 .bf16 := m ((c : Thread nD τ).loc main_arg2)
/-- The factor `a`. -/
abbrev argA : Vec Ideal S7168x64 .bf16 := m ((c : Thread nD τ).loc main_arg3)
/-- The factor `b`. -/
abbrev argB : Vec Ideal S64x18432 .bf16 := m ((c : Thread nD τ).loc main_arg4)
/-- The magnitudes. -/
abbrev argM : Vec Ideal S18432 .f32 := m ((c : Thread nD τ).loc main_arg5)

/-- The half of the lanes that keeps a column is the column's parity. -/
theorem slot_parity (t b : ℕ) (hb : b < 256) : (b / 2 + 128 * (b % 2)) / 128 = (256 * t + b) % 2 := by
  rcases Nat.mod_two_eq_zero_or_one b with h | h <;> rw [h] <;> omega

/-- The byte column of a lane is half of the lane's column. -/
theorem slot_byte (t b : ℕ) (hb : b < 256) : 128 * t + (b / 2 + 128 * (b % 2)) % 128 = (256 * t + b) / 2 := by
  rcases Nat.mod_two_eq_zero_or_one b with h | h <;> rw [h] <;> omega

/-- The tile's weight at point `t` is the weight's columns from `256 t`. -/
theorem tileWeight_block (k : Fin 7168) (b : Fin 256) (n : Fin 18432) (hn : n.val = 256 * t.val + b.val) :
    tileWeight (iblk m c 1 t) (iblk m c 2 t) (iblk m c 3 t) (iblk m c 4 t) k (Lanes.slot b)
      = fullWeight (argW m c) (argS m c) (argA m c) (argB m c) k n := by
  have hc : (⟨256 * t.val + (col (Lanes.slot b)).val, by have := t_lt t; omega⟩ : Fin 18432) = n :=
    Fin.ext ((congrArg (fun b : Fin 256 => 256 * t.val + b.val) (col_slot b)).trans hn.symm)
  have hp : (Lanes.slot b).val / 128 = n.val % 2 := hn ▸ slot_parity t.val b.val b.isLt
  unfold tileWeight fullWeight
  rw [hp]
  unfold weight
  refine congrArg₂ (· + ·) (congrArg₂ (· * ·) (congrArg (code _) ?_) ?_) (Finset.sum_congr rfl fun r _ => congrArg₂ (· * ·) ?_ (congrArg (· * 2) ?_))
  · refine (block_codes m c t k _).trans (congrArg (argW m c) (congrArg (ix2 k) (Fin.ext ?_)))
    exact (slot_byte t.val b.val b.isLt).trans (congrArg (· / 2) hn.symm)
  · exact (block_scales m c t _ _).trans (congrArg (argS m c) (congrArg (ix2 _) hc))
  · exact block_a m c t k r
  · exact (block_b m c t r _).trans (congrArg (argB m c) (congrArg (ix2 _) hc))

/-- The tile's norms at point `t` are the norms of the weight's columns from `256 t`. -/
theorem tileNorm_block (b : Fin 256) (n : Fin 18432) (hn : n.val = 256 * t.val + b.val) :
    tileNorm (iblk m c 1 t) (iblk m c 2 t) (iblk m c 3 t) (iblk m c 4 t) (Lanes.slot b)
      = fullNorm (argW m c) (argS m c) (argA m c) (argB m c) n := by
  unfold tileNorm fullNorm
  exact congrArg Ideal.sqrt (Finset.sum_congr rfl fun k _ => congrArg₂ (· * ·) (tileWeight_block m c t k b n hn) (tileWeight_block m c t k b n hn))

/-! ## The result arrays -/

/-- Every point writes its blocks back. -/
theorem flushes : ∀ t : Fin cfg0.N, (cfg0.win 6).flush t = true ∧ (cfg0.win 7).flush t = true :=
  (by decide +kernel : ∀ t : Fin grid0.N, win0_6.flush t = true ∧ win0_7.flush t = true)

/-- The point whose blocks hold column `n`. -/
def point (n : Fin 18432) : Fin cfg0.N := ⟨n.val / 256, by show n.val / 256 < 72; omega⟩

/-- Where an element of the first result's block sits in the array. -/
theorem emb6 (r : Fin 1536) (n : Fin 18432) :
    (win0_6.blk (point n)).view.emb (ix2 r (⟨n.val % 256, Nat.mod_lt _ (by decide)⟩ : Fin 256)) = (ix2 r n : S1536x18432.Idx) := by
  refine funext (Fin.forall_fin_two.mpr ⟨Fin.ext ?_, Fin.ext ?_⟩)
  · refine (win0_6.rect_emb_val (point n) (ix2 r (⟨n.val % 256, Nat.mod_lt _ (by decide)⟩ : Fin 256)) 0).trans ?_
    rw [(index_zero (point n)).2.2.2.2.2.2.1, Nat.zero_mul, Nat.zero_add]
    rfl
  · refine (win0_6.rect_emb_val (point n) (ix2 r (⟨n.val % 256, Nat.mod_lt _ (by decide)⟩ : Fin 256)) 1).trans ?_
    rw [(index_one (point n)).2.2.2.2.1]
    show n.val / 256 * 256 + n.val % 256 = n.val
    omega

/-- Where an element of the second result's block sits in the array. -/
theorem emb7 (n : Fin 18432) :
    (win0_7.blk (point n)).view.emb (ix2 (0 : Fin 1) (⟨n.val % 256, Nat.mod_lt _ (by decide)⟩ : Fin 256)) = (ix2 0 n : S1x18432.Idx) := by
  refine funext (Fin.forall_fin_two.mpr ⟨Fin.ext ?_, Fin.ext ?_⟩)
  · refine (win0_7.rect_emb_val (point n) (ix2 (0 : Fin 1) (⟨n.val % 256, Nat.mod_lt _ (by decide)⟩ : Fin 256)) 0).trans ?_
    rw [(index_zero (point n)).2.2.2.2.2.2.2, Nat.zero_mul, Nat.zero_add]
    rfl
  · refine (win0_7.rect_emb_val (point n) (ix2 (0 : Fin 1) (⟨n.val % 256, Nat.mod_lt _ (by decide)⟩ : Fin 256)) 1).trans ?_
    rw [(index_one (point n)).2.2.2.2.2]
    show n.val / 256 * 256 + n.val % 256 = n.val
    omega

/-- The first result array after the run. -/
theorem first_apply (r : Fin 1536) (n : Fin 18432) :
    (dats m 0 c).arrAt 6 cfg0.N (ix2 r n : S1536x18432.Idx)
      = fullOut (argX m c) (argW m c) (argS m c) (argA m c) (argB m c) (argM m c) r n := by
  have hn : n.val = 256 * (point n).val + n.val % 256 := by show n.val = 256 * (n.val / 256) + n.val % 256; omega
  have h := congrFun ((Value.blocks6 m c (point n) (flushes (point n)).1).trans (Value.flushed6_A m c (point n)))
    (ix2 r (⟨n.val % 256, Nat.mod_lt _ (by decide)⟩ : Fin 256))
  refine (congrArg ((dats m 0 c).arrAt 6 cfg0.N) (emb6 r n)).symm.trans (h.trans ?_)
  refine (out_first c _ _ _ _ _ _ _ _ _ _ _ _ _ _ _ _ _ _ _ _ _ _ _ _ _ r ⟨n.val % 256, Nat.mod_lt _ (by decide)⟩).trans ?_
  unfold fullOut
  refine congrArg₂ (· * ·) (Finset.sum_congr rfl fun k _ => congrArg₂ (· * ·) (block_x m c _ r k) (tileWeight_block m c _ k _ n hn))
    (congrArg₂ Ideal.div ?_ (tileNorm_block m c _ _ n hn))
  exact (block_magnitude m c _ _).trans (congrArg (argM m c) (congrArg ix1 (Fin.ext hn.symm)))

/-- The second result array after the run. -/
theorem second_apply (n : Fin 18432) :
    (dats m 0 c).arrAt 7 cfg0.N (ix2 0 n : S1x18432.Idx) = fullNorm (argW m c) (argS m c) (argA m c) (argB m c) n := by
  have hn : n.val = 256 * (point n).val + n.val % 256 := by show n.val = 256 * (n.val / 256) + n.val % 256; omega
  have h := congrFun ((Value.blocks7 m c (point n) (flushes (point n)).2).trans (Value.flushed7_A m c (point n)))
    (ix2 (0 : Fin 1) (⟨n.val % 256, Nat.mod_lt _ (by decide)⟩ : Fin 256))
  refine (congrArg ((dats m 0 c).arrAt 7 cfg0.N) (emb7 n)).symm.trans (h.trans ?_)
  refine (out_second c _ _ _ _ _ _ _ _ _ _ _ _ _ _ _ _ _ _ _ _ _ _ _ _ _ ⟨n.val % 256, Nat.mod_lt _ (by decide)⟩).trans ?_
  exact tileNorm_block m c _ _ n hn

end Cert.KernelIdeal.Grid
-- ==== Proof.Equation.lean ====
/- The reference's two results are the kernel's, at every index. -/
module

public import proofs.«01_k».proof.Proof.ReferenceValues
public import proofs.«01_k».proof.Proof.Grid

@[expose] public section

set_option maxRecDepth 16384

noncomputable section

namespace Cert.ReferenceIdeal.Fields

open Idealize.ShloMosaic Idealize.ShloMosaic.Pointwise Idealize.ShloMosaic.TcCoe
open Cert.ReferenceIdeal Cert.ReferenceIdeal.Gen Cert.ReferenceIdeal.Value
open Cert.KernelIdeal.Block (code codeBits weight)
open Cert.KernelIdeal.Grid (fullWeight fullNorm fullOut)

/-- Two goes into a sum of extended reals. -/
theorem two_mul_sum {ι : Type} (s : Finset ι) (f : ι → EReal) : 2 * ∑ i ∈ s, f i = ∑ i ∈ s, 2 * f i := by
  classical
  induction s using Finset.induction_on with
  | empty => simp
  | insert i s h ih =>
    rw [Finset.sum_insert h, Finset.sum_insert h, ← ih]
    exact EReal.left_distrib_of_nonneg_of_ne_top (by norm_num) (by exact_mod_cast EReal.coe_ne_top 2) _ _

/-- The doubled inner product is the inner product with the doubled factor. -/
theorem two_mul_inner (a b : Fin 64 → EReal) : 2 * ∑ r, a r * b r = ∑ r, a r * (b r * 2) := by
  rw [two_mul_sum]
  exact Finset.sum_congr rfl fun r _ => by rw [mul_comm (b r), ← mul_assoc, ← mul_assoc, mul_comm (a r)]

/-- The even columns of the scales. -/
theorem evenScales_apply (s : Vec Ideal S56x18432 .bf16) (g : Fin 56) (j : Fin 9216) :
    Host.slice S56x9216 ![0, 0] ![1, 2] s slicesBy_S56x18432_S56x9216_0s1_0s2 (ix2 g j) = s (ix2 g ⟨2 * j.val, by omega⟩) := by
  pointwise

/-- The odd columns of the scales. -/
theorem oddScales_apply (s : Vec Ideal S56x18432 .bf16) (g : Fin 56) (j : Fin 9216) :
    Host.slice S56x9216 ![0, 1] ![1, 2] s slicesBy_S56x18432_S56x9216_0s1_1s2 (ix2 g j) = s (ix2 g ⟨1 + 2 * j.val, by omega⟩) := by
  pointwise

/-- The even columns of `b`. -/
theorem evenB_apply (b : Vec Ideal S64x18432 .bf16) (r : Fin 64) (j : Fin 9216) :
    Host.slice S64x9216 ![0, 0] ![1, 2] b slicesBy_S64x18432_S64x9216_0s1_0s2 (ix2 r j) = b (ix2 r ⟨2 * j.val, by omega⟩) := by
  pointwise

/-- The odd columns of `b`. -/
theorem oddB_apply (b : Vec Ideal S64x18432 .bf16) (r : Fin 64) (j : Fin 9216) :
    Host.slice S64x9216 ![0, 1] ![1, 2] b slicesBy_S64x18432_S64x9216_0s1_1s2 (ix2 r j) = b (ix2 r ⟨1 + 2 * j.val, by omega⟩) := by
  pointwise

/-- The even columns' magnitudes. -/
theorem evenMagnitude_apply (g : Vec Ideal S18432 .f32) (j : Fin 9216) :
    Host.slice S9216 ![0] ![2] g slicesBy_S18432_S9216_0s2 (ix1 j) = g (ix1 ⟨2 * j.val, by omega⟩) := by
  pointwise

/-- The odd columns' magnitudes. -/
theorem oddMagnitude_apply (g : Vec Ideal S18432 .f32) (j : Fin 9216) :
    Host.slice S9216 ![1] ![2] g slicesBy_S18432_S9216_1s2 (ix1 j) = g (ix1 ⟨1 + 2 * j.val, by omega⟩) := by
  pointwise

variable (m : (ℓ : Loc nD τ sig) → Buf (Elt Ideal) ℓ) (c : Dev nD)

/-- The reference's argument `x`. -/
abbrev argX : Vec Ideal S3x512x7168 .bf16 := m ((c.tc : Thread nD τ).loc main_arg0)
/-- The bytes of codes. -/
abbrev argW : Vec Ideal S7168x9216 .i8 := m ((c.tc : Thread nD τ).loc main_arg1)
/-- The scales. -/
abbrev argS : Vec Ideal S56x18432 .bf16 := m ((c.tc : Thread nD τ).loc main_arg2)
/-- The factor `a`. -/
abbrev argA : Vec Ideal S7168x64 .bf16 := m ((c.tc : Thread nD τ).loc main_arg3)
/-- The factor `b`. -/
abbrev argB : Vec Ideal S64x18432 .bf16 := m ((c.tc : Thread nD τ).loc main_arg4)
/-- The magnitudes. -/
abbrev argM : Vec Ideal S18432 .f32 := m ((c.tc : Thread nD τ).loc main_arg5)

/-- The weight's even columns are those of `fullWeight`. -/
theorem evenWeight_apply (k : Fin 7168) (n : Fin 18432) (h : n.val % 2 = 0) :
    evenWeight m c (ix2 k ⟨n.val / 2, by omega⟩) = fullWeight (argW m c) (argS m c) (argA m c) (argB m c) k n := by
  have hn : (⟨2 * (n.val / 2), by omega⟩ : Fin 18432) = n := Fin.ext (by simp only []; omega)
  unfold evenWeight fullWeight weight code
  rw [half_apply, lowBits_apply, evenScales_apply, h, ← two_mul_inner]
  refine congrArg₂ (· + ·) (congrArg₂ (· * ·) rfl (congrArg (argS m c) (congrArg (ix2 _) hn)))
    (congrArg (2 * ·) (Finset.sum_congr rfl fun r _ => congrArg₂ (· * ·) rfl ?_))
  exact (evenB_apply (argB m c) r _).trans (congrArg (argB m c) (congrArg (ix2 r) hn))

/-- The weight's odd columns are those of `fullWeight`. -/
theorem oddWeight_apply (k : Fin 7168) (n : Fin 18432) (h : n.val % 2 = 1) :
    oddWeight m c (ix2 k ⟨n.val / 2, by omega⟩) = fullWeight (argW m c) (argS m c) (argA m c) (argB m c) k n := by
  have hn : (⟨1 + 2 * (n.val / 2), by omega⟩ : Fin 18432) = n := Fin.ext (by simp only []; omega)
  unfold oddWeight fullWeight weight code
  rw [half_apply, highBits_apply, oddScales_apply, h, ← two_mul_inner]
  refine congrArg₂ (· + ·) (congrArg₂ (· * ·) rfl (congrArg (argS m c) (congrArg (ix2 _) hn)))
    (congrArg (2 * ·) (Finset.sum_congr rfl fun r _ => congrArg₂ (· * ·) rfl ?_))
  exact (oddB_apply (argB m c) r _).trans (congrArg (argB m c) (congrArg (ix2 r) hn))

/-- A half's norm, when its columns are the weight's. -/
theorem halfNorm_eq (v : FVec Ideal S7168x9216 .f32) (n : Fin 18432)
    (hv : ∀ k, v (ix2 k ⟨n.val / 2, by omega⟩) = fullWeight (argW m c) (argS m c) (argA m c) (argB m c) k n) :
    halfNorm v (ix1 ⟨n.val / 2, by omega⟩) = fullNorm (argW m c) (argS m c) (argA m c) (argB m c) n := by
  unfold fullNorm
  rw [halfNorm_apply]
  exact congrArg Ideal.sqrt (Finset.sum_congr rfl fun k _ => congrArg₂ (· * ·) (hv k) (hv k))

/-- A half's product, when its columns are the weight's. -/
theorem halfOut_eq (v : FVec Ideal S7168x9216 .f32) (g : FVec Ideal S9216 .f32) (r : Fin 1536) (n : Fin 18432)
    (hv : ∀ k, v (ix2 k ⟨n.val / 2, by omega⟩) = fullWeight (argW m c) (argS m c) (argA m c) (argB m c) k n)
    (hg : g (ix1 ⟨n.val / 2, by omega⟩) = argM m c (ix1 n)) :
    halfOut (argX m c) v g (ix3 ⟨r.val / 512, by omega⟩ ⟨r.val % 512, Nat.mod_lt _ (by decide)⟩ ⟨n.val / 2, by omega⟩)
      = fullOut (argX m c) (argW m c) (argS m c) (argA m c) (argB m c) (argM m c) r n := by
  unfold fullOut
  rw [halfOut_apply, halfNorm_eq m c v n hv, hg]
  exact congrArg (· * _) (Finset.sum_congr rfl fun k _ => congrArg (_ * ·) (hv k))

/-- The reference's first result, at an index. -/
theorem first_apply (r : Fin 1536) (n : Fin 18432) :
    res_main_v68 m c (ix2 r n : S1536x18432.Idx) = fullOut (argX m c) (argW m c) (argS m c) (argA m c) (argB m c) (argM m c) r n := by
  rw [first_eq]
  refine (joinOut_apply _ _ r n).trans ?_
  by_cases h : n.val % 2 = 0
  · rw [if_pos h]
    refine halfOut_eq m c _ _ r n (fun k => evenWeight_apply m c k n h) ((evenMagnitude_apply (argM m c) _).trans (congrArg (argM m c) (congrArg ix1 ?_)))
    exact Fin.ext (by simp only []; omega)
  · rw [if_neg h]
    refine halfOut_eq m c _ _ r n (fun k => oddWeight_apply m c k n (by omega)) ((oddMagnitude_apply (argM m c) _).trans (congrArg (argM m c) (congrArg ix1 ?_)))
    exact Fin.ext (by simp only []; omega)

/-- The reference's second result, at an index. -/
theorem second_apply (n : Fin 18432) :
    res_main_v69 m c (ix2 0 n : S1x18432.Idx) = fullNorm (argW m c) (argS m c) (argA m c) (argB m c) n := by
  rw [second_eq]
  refine (joinNorm_apply _ _ n).trans ?_
  by_cases h : n.val % 2 = 0
  · rw [if_pos h]
    exact halfNorm_eq m c _ n fun k => evenWeight_apply m c k n h
  · rw [if_neg h]
    exact halfNorm_eq m c _ n fun k => oddWeight_apply m c k n (by omega)

end Cert.ReferenceIdeal.Fields
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Bf16Pair
public import Idealize.ShloMosaic.Lib.Quiescent

@[expose] public section

noncomputable section

namespace Cert.Proof

open Idealize.ShloMosaic Idealize.ShloMosaic.Pointwise Idealize.SL.Sem Cert.Kernel

/-- The idealization preserves the kernel: the packed pair of scales, and its two halves wherever they are read. -/
theorem preserves : preserves_Kernel_KernelIdeal :=
  ⟨IdealRules.bf16_pair.packStatement _, IdealRules.bf16_pair.statement _ _ (by decide),
    IdealRules.bf16_pair.statement _ _ (by decide)⟩

/-- The reference ends with its arguments unchanged; it has no semaphore. -/
theorem reference_frame : quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- The idealized kernel and the reference leave the same two results: `y` and the columns' norms. -/
theorem algebraic : algebraic_KernelIdeal_ReferenceIdeal := by
  intro m g m' g' _ hm
  refine ⟨_, _, Cert.KernelIdeal.Value.run_blocks m g,
    (θ_run Cert.ReferenceIdeal.defs _ _).mono (fun r h c => ?_) (Cert.ReferenceIdeal.Value.run m' g')⟩
  obtain ⟨h0, h1, h2, h3, h4, h5⟩ := hm c
  obtain ⟨r0, r1, hr⟩ := h c
  refine ⟨r0.trans (funext fun i => ?_), r1.trans (funext fun i => ?_), hr⟩
  · obtain ⟨p, n, rfl⟩ : ∃ (p : Fin 1536) (n : Fin 18432), i = ix2 p n := ⟨i 0, i 1, eq_ix2 i⟩
    refine (Cert.ReferenceIdeal.Fields.first_apply m' c p n).trans (Eq.trans ?_ (Cert.KernelIdeal.Grid.first_apply m c p n).symm)
    exact Cert.KernelIdeal.Grid.fullOut_congr h0 h1 h2 h3 h4 h5 p n
  · obtain ⟨p, n, rfl⟩ : ∃ (p : Fin 1) (n : Fin 18432), i = ix2 p n := ⟨i 0, i 1, eq_ix2 i⟩
    obtain rfl : p = 0 := Subsingleton.elim _ _
    refine (Cert.ReferenceIdeal.Fields.second_apply m' c n).trans (Eq.trans ?_ (Cert.KernelIdeal.Grid.second_apply m c n).symm)
    exact Cert.KernelIdeal.Grid.fullNorm_congr h1 h2 h3 h4 n

/-- Everything that is claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    reference_frame, preserves, algebraic⟩

end Cert.Proof

end
